-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S3x192x512 : Shape := ⟨3, ![3, 192, 512]⟩
abbrev S3x3x192x512 : Shape := ⟨4, ![3, 3, 192, 512]⟩
abbrev S3x3 : Shape := ⟨2, ![3, 3]⟩
abbrev S_ : Shape := ⟨0, ![]⟩
abbrev S160x1024 : Shape := ⟨2, ![160, 1024]⟩
abbrev S160x512 : Shape := ⟨2, ![160, 512]⟩
abbrev S1x160x512 : Shape := ⟨3, ![1, 160, 512]⟩
abbrev S1x1 : Shape := ⟨2, ![1, 1]⟩
abbrev S1x1x160x512 : Shape := ⟨4, ![1, 1, 160, 512]⟩
abbrev S192x1024 : Shape := ⟨2, ![192, 1024]⟩
abbrev S192x512 : Shape := ⟨2, ![192, 512]⟩
abbrev S1x192x512 : Shape := ⟨3, ![1, 192, 512]⟩
abbrev S1x1x192x512 : Shape := ⟨4, ![1, 1, 192, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x512, .bf16⟩
  | .hbm, ⟨1, _⟩ => ⟨S512x1024, .bf16⟩
  | .hbm, ⟨2, _⟩ => ⟨S512x1024, .bf16⟩
  | .hbm, ⟨3, _⟩ => ⟨S1024x512, .bf16⟩
  | .hbm, ⟨4, _⟩ => ⟨S512x512, .f32⟩
  | .local _ .vmem, ⟨0, _⟩ => ⟨S512x512, .bf16⟩
  | .local _ .vmem, ⟨1, _⟩ => ⟨S512x1024, .bf16⟩
  | .local _ .vmem, ⟨2, _⟩ => ⟨S512x1024, .bf16⟩
  | .local _ .vmem, ⟨3, _⟩ => ⟨S1024x512, .bf16⟩
  | .local _ .vmem, ⟨4, _⟩ => ⟨S512x512, .f32⟩
  | .local _ .vmem, ⟨5, _⟩ => ⟨S3x192x512, .bf16⟩
  | .local _ .vmem, ⟨6, _⟩ => ⟨S3x3x192x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_4 : BitVec 32 := 1#32
  let v10 : BitVec 32 := Scalar.muli v3 c1_i32_4
  let v11 : BitVec 32 := Scalar.addi c0_i32 v10
  v11.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v5 : BitVec 32 := Scalar.andi v2 c3_i32
  let c3_i32_1 : BitVec 32 := 3#32
  let v6 : BitVec 32 := Scalar.xori v5 c3_i32_1
  let v7 : BitVec 32 := Scalar.ori v4 v6
  let c1_i32_6 : BitVec 32 := 1#32
  let v12 : BitVec 32 := Scalar.muli v7 c1_i32_6
  let v13 : BitVec 32 := Scalar.addi c0_i32_7 v12
  v13.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v8 : BitVec 32 := Scalar.xori v2 c4_i32_2
  let c1_i32_9 : BitVec 32 := 1#32
  let v14 : BitVec 32 := Scalar.muli v8 c1_i32_9
  let v15 : BitVec 32 := Scalar.addi c0_i32_10 v14
  v15.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_31 : BitVec 32 := 1#32
  let v36 : BitVec 32 := Scalar.muli v3 c1_i32_31
  let v37 : BitVec 32 := Scalar.addi c0_i32_32 v36
  v37.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v5 : BitVec 32 := Scalar.andi v2 c3_i32
  let c3_i32_1 : BitVec 32 := 3#32
  let v6 : BitVec 32 := Scalar.xori v5 c3_i32_1
  let v7 : BitVec 32 := Scalar.ori v4 v6
  let c1_i32_47 : BitVec 32 := 1#32
  let v52 : BitVec 32 := Scalar.muli v7 c1_i32_47
  let v53 : BitVec 32 := Scalar.addi c0_i32_48 v52
  v53.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v8 : BitVec 32 := Scalar.xori v2 c4_i32_2
  let c1_i32_62 : BitVec 32 := 1#32
  let v68 : BitVec 32 := Scalar.muli v8 c1_i32_62
  let v69 : BitVec 32 := Scalar.addi c0_i32_63 v68
  v69.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v5 : BitVec 32 := Scalar.andi v2 c3_i32
  let c3_i32_1 : BitVec 32 := 3#32
  let v6 : BitVec 32 := Scalar.xori v5 c3_i32_1
  let v7 : BitVec 32 := Scalar.ori v4 v6
  let c1_i32_107 : BitVec 32 := 1#32
  let v100 : BitVec 32 := Scalar.muli v7 c1_i32_107
  let v101 : BitVec 32 := Scalar.addi c0_i32_108 v100
  v101.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v8 : BitVec 32 := Scalar.xori v2 c4_i32_2
  let c1_i32_152 : BitVec 32 := 1#32
  let v132 : BitVec 32 := Scalar.muli v8 c1_i32_152
  let v133 : BitVec 32 := Scalar.addi c0_i32_153 v132
  v133.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_197 : BitVec 32 := 1#32
  let v164 : BitVec 32 := Scalar.muli v3 c1_i32_197
  let v165 : BitVec 32 := Scalar.addi c0_i32_198 v164
  v165.toNat
def k0_dev10 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2 : BitVec 32 := 4#32
  let v8 : BitVec 32 := Scalar.xori v2 c4_i32_2
  let c1_i32_242 : BitVec 32 := 1#32
  let v196 : BitVec 32 := Scalar.muli v8 c1_i32_242
  let v197 : BitVec 32 := Scalar.addi c0_i32_243 v196
  v197.toNat
def k0_dev11 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_287 : BitVec 32 := 1#32
  let v228 : BitVec 32 := Scalar.muli v3 c1_i32_287
  let v229 : BitVec 32 := Scalar.addi c0_i32_288 v228
  v229.toNat
def k0_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v5 : BitVec 32 := Scalar.andi v2 c3_i32
  let c3_i32_1 : BitVec 32 := 3#32
  let v6 : BitVec 32 := Scalar.xori v5 c3_i32_1
  let v7 : BitVec 32 := Scalar.ori v4 v6
  let c1_i32_332 : BitVec 32 := 1#32
  let v260 : BitVec 32 := Scalar.muli v7 c1_i32_332
  let v261 : BitVec 32 := Scalar.addi c0_i32_333 v260
  v261.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x8192 : Shape := ⟨2, ![512, 8192]⟩
abbrev S8192x512 : Shape := ⟨2, ![8192, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x8192, .bf16⟩
  | .hbm, ⟨2, _⟩ => ⟨S512x8192, .bf16⟩
  | .hbm, ⟨3, _⟩ => ⟨S8192x512, .bf16⟩
  | .hbm, ⟨4, _⟩ => ⟨S512x8192, .f32⟩
  | .hbm, ⟨5, _⟩ => ⟨S512x8192, .bf16⟩
  | .hbm, ⟨6, _⟩ => ⟨S512x8192, .f32⟩
  | .hbm, ⟨7, _⟩ => ⟨S512x8192, .bf16⟩
  | .hbm, ⟨8, _⟩ => ⟨S512x8192, .bf16⟩
  | .hbm, ⟨9, _⟩ => ⟨S512x8192, .bf16⟩
  | .hbm, ⟨10, _⟩ => ⟨S_, .bf16⟩
  | .hbm, ⟨11, _⟩ => ⟨S512x8192, .bf16⟩
  | .hbm, ⟨12, _⟩ => ⟨S512x8192, .bf16⟩
  | .hbm, ⟨13, _⟩ => ⟨S512x8192, .bf16⟩
  | .hbm, ⟨14, _⟩ => ⟨S512x8192, .bf16⟩
  | .hbm, ⟨15, _⟩ => ⟨S512x512, .f32⟩
  | .hbm, ⟨16, _⟩ => ⟨S512x512, .bf16⟩
  | .hbm, ⟨17, _⟩ => ⟨S512x512, .f32⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Protocol.lean ====
/-
# The exchange protocol of the kernel

Eight devices each hold a partial product of 512 rows. The rows are cut in three parts of 160, 160 and 192; each part
is summed over the devices by three pairwise exchanges (a recursive doubling), part `p` exchanging in step `r` with the
partner across bit pattern number `p + r (mod 3)`. Before anything is sent every device signals its three partners
on the barrier semaphore and waits for three signals.

This module names the partners, the buffers' slots, the values that travel, the semaphore cells, and the schedule
that says what each signal and each transfer hands over. Everything holds for any float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The barrier cell has three duties, one for each partner. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The partners -/

/-- The partner of device `c` across bit pattern `j`: the device number with 1, 3 or 4 added without carry. -/
def fl (j : Fin 3) (c : Dev nD) : Dev nD :=
  ⟨c.val ^^^ (![1, 3, 4] : Fin 3 → ℕ) j, by revert j c; decide⟩

theorem fl_fl (j : Fin 3) (c : Dev nD) : fl j (fl j c) = c := by revert j c; decide

/-- Crossing a bit pattern permutes the devices. -/
def flE (j : Fin 3) : Dev nD ≃ Dev nD := ⟨fl j, fl j, fl_fl j, fl_fl j⟩

theorem fl_eq_iff {j : Fin 3} {a b : Dev nD} : Iff (fl j a = b) (a = fl j b) :=
  ⟨fun h => by rw [← h, fl_fl], fun h => by rw [h, fl_fl]⟩

/-- An exchange: the part of the rows and the step. -/
abbrev I : Type := Fin 3 × Fin 3

/-- The partner of device `c` in exchange `i`. -/
abbrev peer (i : I) (c : Dev nD) : Dev nD := fl (i.1 + i.2) c

theorem dev1_eq (c : Dev nD) : (⟨k0_dev1 c, k0_dev1_lt c⟩ : Dev nD) = fl 0 c := by revert c; decide +kernel
theorem dev2_eq (c : Dev nD) : (⟨k0_dev2 c, k0_dev2_lt c⟩ : Dev nD) = fl 1 c := by revert c; decide +kernel
theorem dev3_eq (c : Dev nD) : (⟨k0_dev3 c, k0_dev3_lt c⟩ : Dev nD) = fl 2 c := by revert c; decide +kernel
theorem dev4_eq (c : Dev nD) : (⟨k0_dev4 c, k0_dev4_lt c⟩ : Dev nD) = peer (0, 0) c := by revert c; decide +kernel
theorem dev5_eq (c : Dev nD) : (⟨k0_dev5 c, k0_dev5_lt c⟩ : Dev nD) = peer (1, 0) c := by revert c; decide +kernel
theorem dev6_eq (c : Dev nD) : (⟨k0_dev6 c, k0_dev6_lt c⟩ : Dev nD) = peer (2, 0) c := by revert c; decide +kernel
theorem dev7_eq (c : Dev nD) : (⟨k0_dev7 c, k0_dev7_lt c⟩ : Dev nD) = peer (0, 1) c := by revert c; decide +kernel
theorem dev8_eq (c : Dev nD) : (⟨k0_dev8 c, k0_dev8_lt c⟩ : Dev nD) = peer (1, 1) c := by revert c; decide +kernel
theorem dev9_eq (c : Dev nD) : (⟨k0_dev9 c, k0_dev9_lt c⟩ : Dev nD) = peer (2, 1) c := by revert c; decide +kernel
theorem dev10_eq (c : Dev nD) : (⟨k0_dev10 c, k0_dev10_lt c⟩ : Dev nD) = peer (0, 2) c := by revert c; decide +kernel
theorem dev11_eq (c : Dev nD) : (⟨k0_dev11 c, k0_dev11_lt c⟩ : Dev nD) = peer (1, 2) c := by revert c; decide +kernel
theorem dev12_eq (c : Dev nD) : (⟨k0_dev12 c, k0_dev12_lt c⟩ : Dev nD) = peer (2, 2) c := by revert c; decide +kernel

/-! ## The buffers and their slots -/

abbrev xM : Memref sig .tc .vmem S512x512 .bf16 := Memref.whole cc0_stg0_0
abbrev gM : Memref sig .tc .vmem S512x1024 .bf16 := Memref.whole cc0_stg1_0
abbrev uM : Memref sig .tc .vmem S512x1024 .bf16 := Memref.whole cc0_stg2_0
abbrev dM : Memref sig .tc .vmem S1024x512 .bf16 := Memref.whole cc0_stg3_0
abbrev oM : Memref sig .tc .vmem S512x512 .f32 := Memref.whole cc0_stg4_0
abbrev sM : Memref sig .tc .vmem S3x192x512 .bf16 := Memref.whole cc0_scratch0
abbrev rM : Memref sig .tc .vmem S3x3x192x512 .bf16 := Memref.whole cc0_scratch1

/-- The first 160 rows of slot `a` of the send buffer. -/
abbrev sA (a : ℕ) (h : ∀ k, (![a, 0, 0] : Fin 3 → ℕ) k + S1x160x512.size k ≤ S3x192x512.size k) : Memref sig .tc .vmem S160x512 .bf16 :=
  (sM.slice (Rect.unit (s := S3x192x512) ![a, 0, 0] S1x160x512.size h) (fun _ => rfl)).squeeze S160x512 squeezes_S1x160x512_S160x512
/-- Slot `a` of the send buffer, all 192 rows. -/
abbrev sC (a : ℕ) (h : ∀ k, (![a, 0, 0] : Fin 3 → ℕ) k + S1x192x512.size k ≤ S3x192x512.size k) : Memref sig .tc .vmem S192x512 .bf16 :=
  (sM.slice (Rect.unit (s := S3x192x512) ![a, 0, 0] S1x192x512.size h) (fun _ => rfl)).squeeze S192x512 squeezes_S1x192x512_S192x512
/-- The first 160 rows of slot `(a, b)` of the receive buffer. -/
abbrev rA (a b : ℕ) (h : ∀ k, (![a, b, 0, 0] : Fin 4 → ℕ) k + S1x1x160x512.size k ≤ S3x3x192x512.size k) : Memref sig .tc .vmem S160x512 .bf16 :=
  (rM.slice (Rect.unit (s := S3x3x192x512) ![a, b, 0, 0] S1x1x160x512.size h) (fun _ => rfl)).squeeze S160x512 squeezes_S1x1x160x512_S160x512
/-- Slot `(a, b)` of the receive buffer, all 192 rows. -/
abbrev rC (a b : ℕ) (h : ∀ k, (![a, b, 0, 0] : Fin 4 → ℕ) k + S1x1x192x512.size k ≤ S3x3x192x512.size k) : Memref sig .tc .vmem S192x512 .bf16 :=
  (rM.slice (Rect.unit (s := S3x3x192x512) ![a, b, 0, 0] S1x1x192x512.size h) (fun _ => rfl)).squeeze S192x512 squeezes_S1x1x192x512_S192x512

/-- The rows of part `p`. -/
def sz : Fin 3 → ℕ := ![160, 160, 192]

/-- The elements of the send buffer that carry part `p`. -/
def sSet (p : Fin 3) : Finset S3x192x512.Idx := Finset.univ.filter fun x => (x 0).val = p.val ∧ (x 1).val < sz p
/-- The elements of the receive buffer that take exchange `i`. -/
def rSet (i : I) : Finset S3x3x192x512.Idx :=
  Finset.univ.filter fun x => (x 0).val = i.1.val ∧ (x 1).val = i.2.val ∧ (x 2).val < sz i.1

theorem sSet_disjoint (p q : Fin 3) (h : p ≠ q) : Disjoint (sSet p) (sSet q) := by
  refine Finset.disjoint_left.mpr fun x hp hq => h (Fin.ext ?_)
  rw [← (Finset.mem_filter.mp hp).2.1, (Finset.mem_filter.mp hq).2.1]
theorem rSet_disjoint (i j : I) (h : i ≠ j) : Disjoint (rSet i) (rSet j) := by
  refine Finset.disjoint_left.mpr fun x hp hq => h (Prod.ext (Fin.ext ?_) (Fin.ext ?_))
  · rw [← (Finset.mem_filter.mp hp).2.1, (Finset.mem_filter.mp hq).2.1]
  · rw [← (Finset.mem_filter.mp hp).2.2.1, (Finset.mem_filter.mp hq).2.2.1]

theorem set_sA (a : ℕ) (h) : (sA a h).view.set
    = Finset.univ.filter fun x : S3x192x512.Idx => (x 0).val = a ∧ (x 1).val < 160 := by
  refine (View.set_reshape _ _).trans ((View.set_slice_whole _ _).trans (Finset.ext fun (x : S3x192x512.Idx) => ?_))
  refine (Rect.mem_set_unit (s := S3x192x512) (off := ![a, 0, 0]) (size := S1x160x512.size)).trans ⟨fun hx => ?_, fun hx k => ?_⟩
  · have h0 := hx 0
    have h1 := hx 1
    refine Finset.mem_filter.mpr ⟨Finset.mem_univ _, le_antisymm (Nat.lt_succ_iff.mp h0.2) h0.1, ?_⟩
    exact lt_of_lt_of_eq h1.2 (Nat.zero_add _)
  · obtain ⟨h0, h1⟩ := (Finset.mem_filter.mp hx).2
    fin_cases k
    · exact ⟨le_of_eq h0.symm, Nat.lt_succ_of_le (le_of_eq h0)⟩
    · exact ⟨Nat.zero_le _, lt_of_lt_of_eq h1 (Nat.zero_add _).symm⟩
    · exact ⟨Nat.zero_le _, lt_of_lt_of_eq (x 2).isLt (Nat.zero_add _).symm⟩
theorem set_sC (a : ℕ) (h) : (sC a h).view.set
    = Finset.univ.filter fun x : S3x192x512.Idx => (x 0).val = a ∧ (x 1).val < 192 := by
  refine (View.set_reshape _ _).trans ((View.set_slice_whole _ _).trans (Finset.ext fun (x : S3x192x512.Idx) => ?_))
  refine (Rect.mem_set_unit (s := S3x192x512) (off := ![a, 0, 0]) (size := S1x192x512.size)).trans ⟨fun hx => ?_, fun hx k => ?_⟩
  · have h0 := hx 0
    have h1 := hx 1
    refine Finset.mem_filter.mpr ⟨Finset.mem_univ _, le_antisymm (Nat.lt_succ_iff.mp h0.2) h0.1, ?_⟩
    exact lt_of_lt_of_eq h1.2 (Nat.zero_add _)
  · obtain ⟨h0, h1⟩ := (Finset.mem_filter.mp hx).2
    fin_cases k
    · exact ⟨le_of_eq h0.symm, Nat.lt_succ_of_le (le_of_eq h0)⟩
    · exact ⟨Nat.zero_le _, lt_of_lt_of_eq h1 (Nat.zero_add _).symm⟩
    · exact ⟨Nat.zero_le _, lt_of_lt_of_eq (x 2).isLt (Nat.zero_add _).symm⟩
theorem set_rA (a b : ℕ) (h) : (rA a b h).view.set
    = Finset.univ.filter fun x : S3x3x192x512.Idx => (x 0).val = a ∧ (x 1).val = b ∧ (x 2).val < 160 := by
  refine (View.set_reshape _ _).trans ((View.set_slice_whole _ _).trans (Finset.ext fun (x : S3x3x192x512.Idx) => ?_))
  refine (Rect.mem_set_unit (s := S3x3x192x512) (off := ![a, b, 0, 0]) (size := S1x1x160x512.size)).trans ⟨fun hx => ?_, fun hx k => ?_⟩
  · have h0 := hx 0
    have h1 := hx 1
    have h2 := hx 2
    exact Finset.mem_filter.mpr ⟨Finset.mem_univ _, le_antisymm (Nat.lt_succ_iff.mp h0.2) h0.1, le_antisymm (Nat.lt_succ_iff.mp h1.2) h1.1,
      lt_of_lt_of_eq h2.2 (Nat.zero_add _)⟩
  · obtain ⟨h0, h1, h2⟩ := (Finset.mem_filter.mp hx).2
    fin_cases k
    · exact ⟨le_of_eq h0.symm, Nat.lt_succ_of_le (le_of_eq h0)⟩
    · exact ⟨le_of_eq h1.symm, Nat.lt_succ_of_le (le_of_eq h1)⟩
    · exact ⟨Nat.zero_le _, lt_of_lt_of_eq h2 (Nat.zero_add _).symm⟩
    · exact ⟨Nat.zero_le _, lt_of_lt_of_eq (x 3).isLt (Nat.zero_add _).symm⟩
theorem set_rC (a b : ℕ) (h) : (rC a b h).view.set
    = Finset.univ.filter fun x : S3x3x192x512.Idx => (x 0).val = a ∧ (x 1).val = b ∧ (x 2).val < 192 := by
  refine (View.set_reshape _ _).trans ((View.set_slice_whole _ _).trans (Finset.ext fun (x : S3x3x192x512.Idx) => ?_))
  refine (Rect.mem_set_unit (s := S3x3x192x512) (off := ![a, b, 0, 0]) (size := S1x1x192x512.size)).trans ⟨fun hx => ?_, fun hx k => ?_⟩
  · have h0 := hx 0
    have h1 := hx 1
    have h2 := hx 2
    exact Finset.mem_filter.mpr ⟨Finset.mem_univ _, le_antisymm (Nat.lt_succ_iff.mp h0.2) h0.1, le_antisymm (Nat.lt_succ_iff.mp h1.2) h1.1,
      lt_of_lt_of_eq h2.2 (Nat.zero_add _)⟩
  · obtain ⟨h0, h1, h2⟩ := (Finset.mem_filter.mp hx).2
    fin_cases k
    · exact ⟨le_of_eq h0.symm, Nat.lt_succ_of_le (le_of_eq h0)⟩
    · exact ⟨le_of_eq h1.symm, Nat.lt_succ_of_le (le_of_eq h1)⟩
    · exact ⟨Nat.zero_le _, lt_of_lt_of_eq h2 (Nat.zero_add _).symm⟩
    · exact ⟨Nat.zero_le _, lt_of_lt_of_eq (x 3).isLt (Nat.zero_add _).symm⟩

/-- A view of device `c` held outright, with contents left open. -/
abbrev held {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

omit [FloatOps F] in
theorem owns_held {s : Shape} {e : EltTy} (c : Dev nD) (M : Memref sig .tc .vmem s e) (X : s.Idx → Elt F e) :
    (owns (c : Thread nD τ) M fullShare X : sProp 𝕄) ⊢ held c M := by
  unfold owns
  iintro ⟨%f, -, H⟩
  iexists f
  iexact H

/-- Part `p` of the send buffer of device `c`, contents left open. -/
def sSlot (c : Dev nD) (p : Fin 3) : sProp 𝕄 :=
  match p with
  | 0 => held c (sA 0 inb_S3x192x512_S1x160x512_0_0_0)
  | 1 => held c (sA 1 inb_S3x192x512_S1x160x512_1_0_0)
  | 2 => held c (sC 2 inb_S3x192x512_S1x192x512_2_0_0)

/-- The slot of the receive buffer of device `c` for exchange `i`, contents left open. -/
def rSlot (c : Dev nD) (i : I) : sProp 𝕄 :=
  match i with
  | (0, 0) => held c (rA 0 0 inb_S3x3x192x512_S1x1x160x512_0_0_0_0)
  | (0, 1) => held c (rA 0 1 inb_S3x3x192x512_S1x1x160x512_0_1_0_0)
  | (0, 2) => held c (rA 0 2 inb_S3x3x192x512_S1x1x160x512_0_2_0_0)
  | (1, 0) => held c (rA 1 0 inb_S3x3x192x512_S1x1x160x512_1_0_0_0)
  | (1, 1) => held c (rA 1 1 inb_S3x3x192x512_S1x1x160x512_1_1_0_0)
  | (1, 2) => held c (rA 1 2 inb_S3x3x192x512_S1x1x160x512_1_2_0_0)
  | (2, 0) => held c (rC 2 0 inb_S3x3x192x512_S1x1x192x512_2_0_0_0)
  | (2, 1) => held c (rC 2 1 inb_S3x3x192x512_S1x1x192x512_2_1_0_0)
  | (2, 2) => held c (rC 2 2 inb_S3x3x192x512_S1x1x192x512_2_2_0_0)

omit [FloatOps F] in
theorem sSlot_eq (c : Dev nD) (p : Fin 3) : (sSlot c p : sProp 𝕄)
    = iprop(∃ f : Buf (Elt F) ((c : Thread nD τ).loc cc0_scratch0), ((c : Thread nD τ).loc cc0_scratch0) ↦[sSet p]{fullShare} f) := by
  fin_cases p
  · show held c _ = _; unfold held; rw [set_sA]; rfl
  · show held c _ = _; unfold held; rw [set_sA]; rfl
  · show held c _ = _; unfold held; rw [set_sC]; rfl
omit [FloatOps F] in
theorem rSlot_eq (c : Dev nD) (i : I) : (rSlot c i : sProp 𝕄)
    = iprop(∃ f : Buf (Elt F) ((c : Thread nD τ).loc cc0_scratch1), ((c : Thread nD τ).loc cc0_scratch1) ↦[rSet i]{fullShare} f) := by
  obtain ⟨p, r⟩ := i
  fin_cases p
  · fin_cases r <;> (show held c _ = _; unfold held; rw [set_rA]; rfl)
  · fin_cases r <;> (show held c _ = _; unfold held; rw [set_rA]; rfl)
  · fin_cases r <;> (show held c _ = _; unfold held; rw [set_rC]; rfl)

omit [FloatOps F] in
instance rSlot_storable (c : Dev nD) (i : I) : BI.Storable (upEmb : UEmb _ 𝕄) (rSlot (F := F) c i) := by
  rw [rSlot_eq]; infer_instance

/-! ## What travels -/

/-- The recursive doubling of the values `a`, the pattern of step `r` being `v r`: every step adds to a device's sum the
    partner's sum as it arrives, cut to the half-width type. -/
def bfly {s : Shape} (v : ℕ → Fin 3) (a : Dev nD → FVec F s .f32) : ℕ → Dev nD → FVec F s .f32
  | 0, c => a c
  | r + 1, c => addf (bfly v a r c) (extf .f32 (truncf .bf16 (bfly v a r (fl (v r) c)) bitsLt_bf16_f32) bitsLt_bf16_f32)

/-- The patterns of the steps of part `p`. -/
def pat (p : Fin 3) (r : ℕ) : Fin 3 := p + Fin.ofNat 3 r

/-- The blocks the pipeline stages on device `c`: the rows, and the device's slices of the three weights. -/
def xAt (c : Dev nD) : (cc0_stg0_0 : Ref sig .tc).ty.Contents (Elt F) :=
  (win0_0.blk (0 : Fin 1)).view.read (Elt F) (m ((c : Thread nD τ).loc main_arg0))
def gAt (c : Dev nD) : (cc0_stg1_0 : Ref sig .tc).ty.Contents (Elt F) :=
  (win0_1.blk (0 : Fin 1)).view.read (Elt F) (m ((c : Thread nD τ).loc main_arg1))
def uAt (c : Dev nD) : (cc0_stg2_0 : Ref sig .tc).ty.Contents (Elt F) :=
  (win0_2.blk (0 : Fin 1)).view.read (Elt F) (m ((c : Thread nD τ).loc main_arg2))
def dAt (c : Dev nD) : (cc0_stg3_0 : Ref sig .tc).ty.Contents (Elt F) :=
  (win0_3.blk (0 : Fin 1)).view.read (Elt F) (m ((c : Thread nD τ).loc main_arg3))

/-- The hidden activations of device `c`. -/
def hAt (c : Dev nD) : FVec F S512x1024 .bf16 := k0_pay2 (xAt m c) (gAt m c) (uAt m c)

/-- The sums of the three parts after `r` steps. -/
def acc0 : ℕ → Dev nD → FVec F S160x512 .f32 := bfly (pat 0) fun c => k0_pay4 (hAt m c) (dAt m c)
def acc1 : ℕ → Dev nD → FVec F S160x512 .f32 := bfly (pat 1) fun c => k0_pay6 (hAt m c) (dAt m c)
def acc2 : ℕ → Dev nD → FVec F S192x512 .f32 := bfly (pat 2) fun c => k0_pay8 (hAt m c) (k0_pay3 (dAt m c))

/-- What device `c` sends in step `r` of each part. -/
def msg0 (r : ℕ) (c : Dev nD) : FVec F S160x512 .bf16 := truncf .bf16 (acc0 m r c) bitsLt_bf16_f32
def msg1 (r : ℕ) (c : Dev nD) : FVec F S160x512 .bf16 := truncf .bf16 (acc1 m r c) bitsLt_bf16_f32
def msg2 (r : ℕ) (c : Dev nD) : FVec F S192x512 .bf16 := truncf .bf16 (acc2 m r c) bitsLt_bf16_f32

/-- A finished send returns the part of the send buffer, still holding what was sent. -/
def sendPay (c : Dev nD) (i : I) : sProp 𝕄 :=
  match i.1 with
  | 0 => owns (c : Thread nD τ) (sA 0 inb_S3x192x512_S1x160x512_0_0_0) fullShare (msg0 m i.2.val c)
  | 1 => owns (c : Thread nD τ) (sA 1 inb_S3x192x512_S1x160x512_1_0_0) fullShare (msg1 m i.2.val c)
  | 2 => owns (c : Thread nD τ) (sC 2 inb_S3x192x512_S1x192x512_2_0_0) fullShare (msg2 m i.2.val c)

/-- An arrival gives the slot of the receive buffer, holding what the partner sent. -/
def recvPay (c : Dev nD) (i : I) : sProp 𝕄 :=
  match i with
  | (0, 0) => owns (c : Thread nD τ) (rA 0 0 inb_S3x3x192x512_S1x1x160x512_0_0_0_0) fullShare (msg0 m 0 (peer (0, 0) c))
  | (0, 1) => owns (c : Thread nD τ) (rA 0 1 inb_S3x3x192x512_S1x1x160x512_0_1_0_0) fullShare (msg0 m 1 (peer (0, 1) c))
  | (0, 2) => owns (c : Thread nD τ) (rA 0 2 inb_S3x3x192x512_S1x1x160x512_0_2_0_0) fullShare (msg0 m 2 (peer (0, 2) c))
  | (1, 0) => owns (c : Thread nD τ) (rA 1 0 inb_S3x3x192x512_S1x1x160x512_1_0_0_0) fullShare (msg1 m 0 (peer (1, 0) c))
  | (1, 1) => owns (c : Thread nD τ) (rA 1 1 inb_S3x3x192x512_S1x1x160x512_1_1_0_0) fullShare (msg1 m 1 (peer (1, 1) c))
  | (1, 2) => owns (c : Thread nD τ) (rA 1 2 inb_S3x3x192x512_S1x1x160x512_1_2_0_0) fullShare (msg1 m 2 (peer (1, 2) c))
  | (2, 0) => owns (c : Thread nD τ) (rC 2 0 inb_S3x3x192x512_S1x1x192x512_2_0_0_0) fullShare (msg2 m 0 (peer (2, 0) c))
  | (2, 1) => owns (c : Thread nD τ) (rC 2 1 inb_S3x3x192x512_S1x1x192x512_2_1_0_0) fullShare (msg2 m 1 (peer (2, 1) c))
  | (2, 2) => owns (c : Thread nD τ) (rC 2 2 inb_S3x3x192x512_S1x1x192x512_2_2_0_0) fullShare (msg2 m 2 (peer (2, 2) c))

/-- A barrier signal across pattern `j` hands over the slots of the signalling device that its partner will fill. -/
def barPay (c : Dev nD) (j : Fin 3) : sProp 𝕄 :=
  iprop(rSlot (fl j c) (0, j) ∗ rSlot (fl j c) (1, j + 2) ∗ rSlot (fl j c) (2, j + 1))

instance sendPay_storable (c : Dev nD) (i : I) : BI.Storable (upEmb : UEmb _ 𝕄) (sendPay (F := F) m c i) := by
  unfold sendPay; split <;> infer_instance
instance recvPay_storable (c : Dev nD) (i : I) : BI.Storable (upEmb : UEmb _ 𝕄) (recvPay (F := F) m c i) := by
  unfold recvPay; split <;> infer_instance
omit [FloatOps F] in
instance barPay_storable (c : Dev nD) (j : Fin 3) : BI.Storable (upEmb : UEmb _ 𝕄) (barPay (F := F) c j) := by
  unfold barPay; infer_instance

/-! ## The semaphore cells -/

/-- The barrier semaphore, and the semaphores of exchange `i`: the sender's and the receiver's. -/
abbrev barS : Sem sig := (SemArray.scalar (sig.barrier 0 rfl) : Sems sig S_).sem
def sS (i : I) : DmaSem sig := ⟨5 + 3 * i.1.val + i.2.val, by revert i; decide⟩
def rS (i : I) : DmaSem sig := ⟨14 + 3 * i.1.val + i.2.val, by revert i; decide⟩

/-- The kernel's cells on a device: the barrier's, then the send and the receive cell of every exchange. -/
abbrev Cell : Type := Unit ⊕ (I ⊕ I)

def csem : Cell → SemLoc sig
  | .inl _ => .reg barS
  | .inr (.inl i) => .dma (sS i)
  | .inr (.inr i) => .dma (rS i)

theorem csem_injective : Function.Injective csem := by decide +kernel

abbrev kcell (ck : Dev nD × Cell) : GSem nD τ sig := ((ck.1 : Thread nD τ), csem ck.2)
abbrev barCell (c : Dev nD) : GSem nD τ sig := kcell (c, .inl ())
abbrev sndCell (c : Dev nD) (i : I) : GSem nD τ sig := kcell (c, .inr (.inl i))
abbrev rcvCell (c : Dev nD) (i : I) : GSem nD τ sig := kcell (c, .inr (.inr i))

theorem kcell_injective : Function.Injective kcell := by
  rintro ⟨a, k⟩ ⟨b, l⟩ h
  have h1 : a = b := congrArg (fun g : GSem nD τ sig => g.1.1) h
  have h2 : k = l := csem_injective (congrArg (fun g : GSem nD τ sig => g.2) h)
  rw [h1, h2]

/-- Which of the kernel's cells a semaphore is, if it is one. -/
def decode (sm : SemLoc sig) : Option Cell := Function.partialInv csem sm
theorem decode_csem (k : Cell) : decode (csem k) = some k := Function.partialInv_left csem_injective k
theorem decode_eq {sm : SemLoc sig} {k : Cell} (h : decode sm = some k) : csem k = sm :=
  (Function.partialInv_of_injective csem_injective k sm).mp h

/-- The units a transfer of part `p` credits. -/
def N (p : Fin 3) : ℕ :=
  match p with
  | 0 => (rA 0 0 inb_S3x3x192x512_S1x1x160x512_0_0_0_0).view.dmaCredit
  | 1 => (rA 1 0 inb_S3x3x192x512_S1x1x160x512_1_0_0_0).view.dmaCredit
  | 2 => (rC 2 0 inb_S3x3x192x512_S1x1x192x512_2_0_0_0).view.dmaCredit

theorem N_pos (p : Fin 3) : 0 < N p := by
  fin_cases p <;> exact View.dmaCredit_pos _ (by decide)

/-! ## The schedule: one round, three duties of one unit on a barrier cell, one duty of a transfer's credit on the others -/

def Rd : Rounds.Schedule (GSem nD τ sig) (Fin 3) 𝕄 where
  duties g r := if r = 0 ∧ g.1.2 = .tc then
      match decode g.2 with
      | none => ∅
      | some (.inl _) => Finset.univ
      | some (.inr _) => {0}
    else ∅
  unitless _ := False
  amount g _ _ := match decode g.2 with
    | none => 1
    | some (.inl _) => 1
    | some (.inr (.inl i)) => N i.1
    | some (.inr (.inr i)) => N i.1
  payload g _ d := match decode g.2 with
    | none => iprop(emp)
    | some (.inl _) => barPay g.1.1 d
    | some (.inr (.inl i)) => sendPay m g.1.1 i
    | some (.inr (.inr i)) => recvPay m g.1.1 i
  amount_pos g _ _ _ := by
    split
    · exact Nat.one_pos
    · exact Nat.one_pos
    · exact N_pos _
    · exact N_pos _

instance Rd_payload_storable (g : GSem nD τ sig) (r : ℕ) (d : Fin 3) :
    BI.Storable (upEmb : UEmb _ 𝕄) ((Rd (F := F) m).payload g r d) := by
  dsimp only [Rd]
  split <;> infer_instance

section Sched
variable (c : Dev nD) (i : I)

theorem duties_bar : (Rd (F := F) m).duties (barCell c) 0 = Finset.univ := by
  dsimp only [Rd]; rw [if_pos ⟨rfl, rfl⟩, decode_csem]
theorem duties_snd : (Rd (F := F) m).duties (sndCell c i) 0 = {0} := by
  dsimp only [Rd]; rw [if_pos ⟨rfl, rfl⟩, decode_csem]
theorem duties_rcv : (Rd (F := F) m).duties (rcvCell c i) 0 = {0} := by
  dsimp only [Rd]; rw [if_pos ⟨rfl, rfl⟩, decode_csem]
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [decode_csem]
theorem amount_snd (d : Fin 3) : (Rd (F := F) m).amount (sndCell c i) 0 d = N i.1 := by dsimp only [Rd]; rw [decode_csem]
theorem amount_rcv (d : Fin 3) : (Rd (F := F) m).amount (rcvCell c i) 0 d = N i.1 := by dsimp only [Rd]; rw [decode_csem]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sndCell c i) 0 = N i.1 := by
  unfold Schedule.expect Schedule.amountOf; rw [duties_snd, Finset.sum_singleton, amount_snd]
theorem expect_rcv : (Rd (F := F) m).expect (rcvCell c i) 0 = N i.1 := by
  unfold Schedule.expect Schedule.amountOf; rw [duties_rcv, Finset.sum_singleton, amount_rcv]

theorem payload_bar (d : Fin 3) : (Rd (F := F) m).payload (barCell c) 0 d = barPay c d := by dsimp only [Rd]; rw [decode_csem]
theorem payload_snd (d : Fin 3) : (Rd (F := F) m).payload (sndCell c i) 0 d = sendPay m c i := by dsimp only [Rd]; rw [decode_csem]
theorem payload_rcv (d : Fin 3) : (Rd (F := F) m).payload (rcvCell c i) 0 d = recvPay m c i := by dsimp only [Rd]; rw [decode_csem]

/-- The whole round of a cell, no duty taken yet. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_snd : bigSep ((Rd (F := F) m).duties (sndCell c i) 0 \ ∅) (fun d => (Rd (F := F) m).payload (sndCell c i) 0 d) = sendPay m c i := by
  rw [Finset.sdiff_empty, duties_snd, bigSep_singleton, payload_snd]
theorem rest_rcv : bigSep ((Rd (F := F) m).duties (rcvCell c i) 0 \ ∅) (fun d => (Rd (F := F) m).payload (rcvCell c i) 0 d) = recvPay m c i := by
  rw [Finset.sdiff_empty, duties_rcv, bigSep_singleton, payload_rcv]

end Sched

/-! ## What a device still owes, and the levels that rule out a deadlock -/

/-- A due: a barrier signal across a pattern, or an exchange's transfer. -/
abbrev Due : Type := Fin 3 ⊕ I

def dcell (c : Dev nD) : Due → GSem nD τ sig
  | .inl j => barCell (fl j c)
  | .inr i => rcvCell (peer i c) i
def damt : Due → ℕ
  | .inl _ => 1
  | .inr i => N i.1
/-- A barrier signal comes before every transfer, and a step's transfers before the next step's. -/
def dlev : Due → ℕ
  | .inl _ => 1
  | .inr i => 2 + i.2.val

/-- The credits of a list of dues, the head summed last. -/
def tally (c : Dev nD) : List Due → CellTallies nD τ sig Unit
  | [] => 0
  | d :: l => tally c l + tallyAt (dcell c d) () (damt d)

/-- The transfers in program order, and the signals before them. -/
def sends : List Due := [.inr (0, 0), .inr (1, 0), .inr (2, 0), .inr (0, 1), .inr (1, 1), .inr (2, 1), .inr (0, 2), .inr (1, 2), .inr (2, 2)]
def dues : List Due := .inl 0 :: .inl 1 :: .inl 2 :: sends

def L (g : GSem nD τ sig) : Finset Unit := if g.1.2 = .tc then {()} else ∅
def lv (g : GSem nD τ sig) (_ : Unit) : ℕ :=
  match decode g.2 with
  | some (.inl _) => 1
  | some (.inr (.inr i)) => 2 + i.2.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [decode_csem]
theorem lv_snd (c : Dev nD) (i : I) : lv (sndCell c i) () = 0 := by dsimp only [lv]; rw [decode_csem]
theorem lv_rcv (c : Dev nD) (i : I) : lv (rcvCell c i) () = 2 + i.2.val := by dsimp only [lv]; rw [decode_csem]

theorem lv_dcell (c : Dev nD) (d : Due) : lv (dcell c d) () = dlev d := by
  rcases d with j | i
  · exact lv_bar _
  · exact lv_rcv _ _
theorem L_dcell (c : Dev nD) (d : Due) : L (dcell c d) = {()} := by
  rcases d with j | i <;> exact L_tc _ _

theorem tally_pos {c : Dev nD} {l : List Due} {g : GSem nD τ sig} {u : Unit} (h : 0 < tally c l g u) : ∃ d ∈ l, g = dcell c d := by
  induction l with
  | nil => exact absurd h (Nat.lt_irrefl 0)
  | cons d l ih =>
    unfold tally at h
    rw [Pi.add_apply, Finsupp.add_apply, tallyAt_apply] at h
    by_cases hd : g = dcell c d ∧ u = ()
    · exact ⟨d, List.mem_cons_self, hd.1⟩
    · rw [if_neg hd, Nat.add_zero] at h
      obtain ⟨e, he, hg⟩ := ih h
      exact ⟨e, List.mem_cons_of_mem _ he, hg⟩

omit [FloatOps F] in
/-- A device may wait on a semaphore whose level is below that of everything it owes. -/
theorem mayWait (c : Dev nD) (sm : SemLoc sig) (l : List Due) (n : ℕ) (hsm : lv ((c : Thread nD τ), sm) () ≤ n) (hl : ∀ d ∈ l, n < dlev d) :
    (levAts L lv : sProp 𝕄) ⊢ MayWait (c : Thread nD τ) sm () (tally c l) :=
  MayOwe.of_cut (L := L) (lev := lv) n (fun p hp => by rw [Finset.mem_singleton.mp hp, L_tc]; exact Finset.mem_singleton_self _)
    (fun g u hg => by obtain ⟨d, -, rfl⟩ := tally_pos hg; rw [L_dcell]; exact Finset.mem_singleton_self _)
    (fun p hp => by rw [Finset.mem_singleton.mp hp]; exact hsm)
    (fun g u hg => by obtain ⟨d, hd, rfl⟩ := tally_pos hg; rw [lv_dcell]; exact hl d hd)

/-- Device `c` owes the dues `l`, whatever it has waited for. -/
def owe (c : Dev nD) (l : List Due) : sProp 𝕄 := iprop(∃ W, owes (c : Thread nD τ) (tally c l) W)

end Cert.Exchange

end
-- ==== Proof.Steps.lean ====
/-
# The kernel's steps under the exchange protocol

One lemma for each kind of step of the kernel: a barrier signal, the barrier wait, filling a part of the send buffer,
sending it, waiting for the send, waiting for the arrival, reading an arrived slot. Each takes the step's resources and
gives back what the protocol says; a wait closes its cell, so the counter comes back at zero.
-/
module

public import proofs.«01_k».proof.Proof.Protocol
public import Idealize.ShloMosaic.Lib.Pipeline.Value

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the kernel on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, and that every cell has reached its round. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

variable (K : Dev nD × Cell → ℕ)

theorem records_inv (ck : Dev nD × Cell) : records m K ⊢ cellInv ER (Rd m) (K ck) (kcell ck) := by
  unfold records
  exact sep_elim_left.trans (bigSep_elim (Φ := fun ck : Dev nD × Cell => (cellInv ER (Rd m) (K ck) (kcell ck) : sProp 𝕄)) (Finset.mem_univ ck))
theorem records_reached (ck : Dev nD × Cell) : records m K ⊢ reached ER (kcell ck) 0 := by
  unfold records
  exact sep_elim_right.trans (bigSep_elim (Φ := fun ck : Dev nD × Cell => (reached ER (kcell ck) 0 : sProp 𝕄)) (Finset.mem_univ ck))

/-! ## The tokens of one exchange -/

/-- What pays for the transfer of exchange `i`: the duty of the partner's receive cell and of the own send cell. -/
def payTok (c : Dev nD) (i : I) : sProp 𝕄 := iprop(dutyTok ER (sndCell c i) 0 0 ∗ dutyTok ER (rcvCell (peer i c) i) 0 0)
/-- What the wait for the own send of exchange `i` takes besides the credit the send gives. -/
def sndTok (c : Dev nD) (i : I) : sProp 𝕄 := atPos ER (sndCell c i) 0 ∅ 0
def sentTok (c : Dev nD) (i : I) : sProp 𝕄 := iprop(atPos ER (sndCell c i) 0 ∅ 0 ∗ cred (tallyAt (sndCell c i) () (N i.1)))
/-- What the wait for the arrival of exchange `i` takes. -/
def rcvTok (c : Dev nD) (i : I) : sProp 𝕄 := iprop(atPos ER (rcvCell c i) 0 ∅ 0 ∗ cred (tallyAt (rcvCell c i) () (N i.1)))

section Steps
variable {α : Type} (c : Dev nD)

/-! ## The barrier -/

/-- A signal to the partner across pattern `j` hands over the three slots that partner fills. -/
theorem wp_sig (j : Fin 3) (l : List Due) {n : Dev nD} (hn : n = fl j c) {k : PUnit → Prog (TpuEff nD τ sig (Elt F) Λ₀ .tc) α} {Q : α → sProp 𝕄} :
    iprop(records m K ∗ owe c (.inl j :: l) ∗ dutyTok ER (barCell (fl j c)) 0 j ∗ rSlot c (0, j) ∗ rSlot c (1, j + 2) ∗ rSlot c (2, j + 1))
      ⊢ iprop((owe c l -∗ wpc c (k ⟨⟩) Q) -∗ wpc c (Prog.op (.semSignal (n, .tc) barS (1#32 : BitVec 32).toInt) k) Q) := by
  subst hn
  unfold owe
  iintro ⟨#HR, ⟨%W, HO⟩, Ht, H0, H1, H2⟩ Hk
  iapply (Rounds.wp_signal 𝒱₀ ER (Rd m) (c : Thread nD τ) none (dst := (fl j c : Thread nD τ)) (κ := K (fl j c, .inl ()))
      (d := j) (by show j ∈ (Rd m).duties (barCell (fl j c)) 0; rw [duties_bar]; exact Finset.mem_univ _)
      ((amount_bar m (fl j c) j).trans (by decide)) () (tally c l) rfl) $$ [HO Ht H0 H1 H2]
  · isplitr; · iapply (records_inv m K (fl j c, .inl ())); iexact HR
    isplitl [HO]; · iexact HO
    isplitl [Ht]; · iexact Ht
    isplitl [H0 H1 H2]
    · iapply (show barPay (fl j c) j ⊢ (Rd m).payload ((fl j c : Thread nD τ), .reg barS) 0 j from Entails.of_eq (payload_bar m (fl j c) j).symm)
      unfold barPay; rw [fl_fl]
      isplitl [H0]; · iexact H0
      isplitl [H1] <;> iassumption
    iapply (records_reached m K (fl j c, .inl ())); iexact HR
  iintro HO
  iapply Hk
  iexists W; iexact HO

/-- The wait for the three partners' signals: all the slots this device fills are its own to fill. -/
theorem wp_bar {k : PUnit → Prog (TpuEff nD τ sig (Elt F) Λ₀ .tc) α} {Q : α → sProp 𝕄} :
    iprop(records m K ∗ levAts L lv ∗ owe c sends ∗ atPos ER (barCell c) 0 ∅ 0 ∗ cred (tallyAt (barCell c) () 3))
      ⊢ iprop(((owe c sends ∗ semVal (barCell c) 0 ∗ barPay c 0 ∗ barPay c 1 ∗ barPay c 2) -∗ wpc c (k ⟨⟩) Q)
          -∗ wpc c (Prog.op (.semWait barS (3#32 : BitVec 32).toInt) k) Q) := by
  unfold owe
  iintro ⟨#HR, #Hlev, ⟨%W, HO⟩, Hat, Hc⟩ Hk
  iapply (Rounds.wp_wait_rest_token 𝒱₀ ER (Rd m) (c : Thread nD τ) none (κ := K (c, .inl ()))
      (wpE_semWait_eq 𝒱₀ (c : Thread nD τ) none Set.univ) (Set.mem_univ _) () (O := tally c sends) (W := W) (R := 0) (m := 0) (T := ∅)
      (by rw [show (Rd m).expect ((c : Thread nD τ), SemLoc.reg barS) 0 = 3 from expect_bar m c]; decide)) $$ [Hc HO Hat]
  · isplitr; · iapply (records_inv m K (c, .inl ())); iexact HR
    isplitl [Hc]; · iexact Hc
    isplitl [HO]; · iexact HO
    isplitr
    · iapply (mayWait c (.reg barS) sends 1 (le_of_eq (lv_bar c)) (by decide)); iexact Hlev
    iexact Hat
  iintro ⟨HO, Hat, -, Hpay⟩
  ihave Hp := (show bigSep ((Rd m).duties ((c : Thread nD τ), .reg barS) 0 \ ∅) (fun d => (Rd m).payload ((c : Thread nD τ), .reg barS) 0 d)
    ⊢ iprop(barPay c 0 ∗ barPay c 1 ∗ barPay c 2) from Entails.of_eq (rest_bar m c)) $$ Hpay
  imod (Rounds.cell_close ER (Rd m) (Set.mem_univ (K (c, .inl ()))) (fun h => h) (R := 0 + 1) (duties_later m (barCell c))) $$ [Hat] with Hz
  · isplitr; · iapply (records_inv m K (c, .inl ())); iexact HR
    iexact Hat
  iapply Hk
  isplitl [HO]; · iexists _; iexact HO
  isplitl [Hz]; · iexact Hz
  iexact Hp

/-! ## Sending -/

/-- The transfer of exchange `i`. -/
theorem wp_snd (i : I) (l : List Due) {s : Shape} {src dst : Memref sig .tc .vmem s .bf16} {n : Dev nD} (hn : n = peer i c)
    {q₁ q₂ : DmaSem sig} (hq₁ : q₁ = sS i) (hq₂ : q₂ = rS i)
    {X : s.Idx → Elt F .bf16} (hX : (owns (c : Thread nD τ) src fullShare X : sProp 𝕄) ⊢ sendPay m c i)
    (hR : (owns (peer i c : Thread nD τ) dst fullShare X : sProp 𝕄) ⊢ recvPay m (peer i c) i)
    (hS : (rSlot (peer i c) i : sProp 𝕄) ⊢ held (peer i c) dst) (hN : dst.view.dmaCredit = N i.1)
    {hsc : (show Memref sig (Dev.tc n : Thread nD τ).2.kind .vmem s .bf16 from dst).view.ref.isScScratch = false}
    {hsrc : src.view.WordExact} {hdst : dst.view.WordExact}
    {hsem : DmaTarget.Typed .vmem (.dma q₂) (.remote (Dev.tc n : Thread nD τ) dst (.dma q₁) hsc)}
    {k : PUnit → Prog (TpuEff nD τ sig (Elt F) Λ₀ .tc) α} {Q : α → sProp 𝕄} :
    iprop(records m K ∗ owe c (.inr i :: l) ∗ payTok c i ∗ sndTok c i ∗ rSlot (peer i c) i ∗ owns (c : Thread nD τ) src fullShare X)
      ⊢ iprop(((owe c l ∗ sentTok c i) -∗ wpc c (k ⟨⟩) Q)
          -∗ wpc c (Prog.op (.enqueueDma src (.remote (Dev.tc n : Thread nD τ) dst (.dma q₁) hsc) (.dma q₂) hsrc hdst hsem) k) Q) := by
  subst hn hq₁ hq₂
  unfold owe payTok sndTok sentTok
  iintro ⟨#HR, ⟨%W, HO⟩, ⟨Ht₁, Ht₂⟩, Hat, Hslot, Hown⟩ Hk
  ihave Hd := hS $$ Hslot
  icases Hd with ⟨%fd, Hd⟩
  unfold owns at hX hR ⊢
  icases Hown with ⟨%fs, %hfs, Hs⟩
  iapply (Rounds.wp_send_pointsTo 𝒱₀ ER (Rd m) (c : Thread nD τ) none (κ₁ := K (c, .inr (.inl i))) (κ₂ := K (peer i c, .inr (.inr i)))
    (r₁ := 0) (r₂ := 0) (d₁ := 0) (d₂ := 0) (fd := fd)
    (by show (0 : Fin 3) ∈ (Rd m).duties (sndCell c i) 0; rw [duties_snd]; exact Finset.mem_singleton_self _)
    (by show (0 : Fin 3) ∈ (Rd m).duties (rcvCell (peer i c) i) 0; rw [duties_rcv]; exact Finset.mem_singleton_self _)
    () () (N i.1) (show dst.view.amount (.dma (rS i)) = N i.1 from hN) (amount_snd m c i 0) (amount_rcv m (peer i c) i 0) (tally c l) rfl (W := W)
    (by
      refine BIBase.Entails.trans ?_ (Entails.of_eq (payload_snd m c i 0).symm)
      refine BIBase.Entails.trans ?_ hX
      iintro H; iexists fs; isplitr; · (ipureintro; exact hfs)
      iexact H)
    (by
      refine BIBase.Entails.trans ?_ (Entails.of_eq (payload_rcv m (peer i c) i 0).symm)
      refine BIBase.Entails.trans ?_ hR
      iintro H; iexists (dst.view.write (Elt F) fd (src.view.read (Elt F) fs) Finset.univ); isplitr
      · ipureintro; exact (View.read_write_univ (v := dst.view) fd (src.view.read (Elt F) fs)).trans hfs
      iexact H)) $$ [HO Ht₁ Ht₂ Hd Hs]
  · isplitr; · iapply (records_inv m K (c, .inr (.inl i))); iexact HR
    isplitr; · iapply (records_inv m K (peer i c, .inr (.inr i))); iexact HR
    isplitl [Hs]; · iexact Hs
    isplitl [Hd]; · iexact Hd
    isplitl [HO]; · iexact HO
    isplitl [Ht₁]; · iexact Ht₁
    isplitr; · iapply (records_reached m K (c, .inr (.inl i))); iexact HR
    isplitl [Ht₂]; · iexact Ht₂
    iapply (records_reached m K (peer i c, .inr (.inr i))); iexact HR
  iintro ⟨Hc, HO⟩
  iapply Hk
  isplitl [HO]; · iexists _; iexact HO
  isplitl [Hat]; · iexact Hat
  iexact Hc

/-- The wait for the own send of exchange `i`: the part of the send buffer is back. -/
theorem wp_sent (i : I) (l : List Due) (hl : ∀ d ∈ l, 0 < dlev d) {q : DmaSem sig} (hq : q = sS i)
    {s s' : Shape} {e : EltTy} {sp sp' : Space} {src : Memref sig .tc sp' s' e} {dst : Memref sig .tc sp s e}
    (hN : dst.view.dmaCredit = N i.1) {hsrc : src.view.WordExact} {hdst : dst.view.WordExact}
    {k : PUnit → Prog (TpuEff nD τ sig (Elt F) Λ₀ .tc) α} {Q : α → sProp 𝕄} :
    iprop(records m K ∗ levAts L lv ∗ owe c l ∗ sentTok c i)
      ⊢ iprop(((owe c l ∗ semVal (sndCell c i) 0 ∗ sendPay m c i) -∗ wpc c (k ⟨⟩) Q)
          -∗ wpc c (Prog.op (.waitDma2 q src dst hsrc hdst) k) Q) := by
  subst hq
  unfold owe sentTok
  iintro ⟨#HR, #Hlev, ⟨%W, HO⟩, Hat, Hc⟩ Hk
  iapply (Rounds.wp_wait_rest_token 𝒱₀ ER (Rd m) (c : Thread nD τ) none (κ := K (c, .inr (.inl i)))
      (wpE_waitDma2_eq 𝒱₀ (c : Thread nD τ) none Set.univ) (Set.mem_univ _) () (O := tally c l) (W := W) (R := 0) (m := 0) (T := ∅)
      (by rw [Nat.zero_add, hN]; exact (expect_snd m c i).symm)) $$ [Hc HO Hat]
  · isplitr; · iapply (records_inv m K (c, .inr (.inl i))); iexact HR
    isplitl [Hc]; · rw [hN]; iexact Hc
    isplitl [HO]; · iexact HO
    isplitr
    · iapply (mayWait c (.dma (sS i)) l 0 (le_of_eq (lv_snd c i)) hl); iexact Hlev
    iexact Hat
  iintro ⟨HO, Hat, -, Hpay⟩
  ihave Hp := (show bigSep ((Rd m).duties ((c : Thread nD τ), .dma (sS i)) 0 \ ∅) (fun d => (Rd m).payload ((c : Thread nD τ), .dma (sS i)) 0 d)
    ⊢ sendPay m c i from Entails.of_eq (rest_snd m c i)) $$ Hpay
  imod (Rounds.cell_close ER (Rd m) (Set.mem_univ (K (c, .inr (.inl i)))) (fun h => h) (R := 0 + 1) (duties_later m (sndCell c i))) $$ [Hat] with Hz
  · isplitr; · iapply (records_inv m K (c, .inr (.inl i))); iexact HR
    iexact Hat
  iapply Hk
  isplitl [HO]; · iexists _; iexact HO
  isplitl [Hz]; · iexact Hz
  iexact Hp

/-- The wait for the arrival of exchange `i`: the slot holds what the partner sent. -/
theorem wp_rcv (i : I) (l : List Due) (hl : ∀ d ∈ l, 2 + i.2.val < dlev d) {q : DmaSem sig} (hq : q = rS i)
    {s s' : Shape} {e : EltTy} {sp sp' : Space} {src : Memref sig .tc sp' s' e} {dst : Memref sig .tc sp s e}
    (hN : dst.view.dmaCredit = N i.1) {hsrc : src.view.WordExact} {hdst : dst.view.WordExact}
    {k : PUnit → Prog (TpuEff nD τ sig (Elt F) Λ₀ .tc) α} {Q : α → sProp 𝕄} :
    iprop(records m K ∗ levAts L lv ∗ owe c l ∗ rcvTok c i)
      ⊢ iprop(((owe c l ∗ semVal (rcvCell c i) 0 ∗ recvPay m c i) -∗ wpc c (k ⟨⟩) Q)
          -∗ wpc c (Prog.op (.waitDma2 q src dst hsrc hdst) k) Q) := by
  subst hq
  unfold owe rcvTok
  iintro ⟨#HR, #Hlev, ⟨%W, HO⟩, Hat, Hc⟩ Hk
  iapply (Rounds.wp_wait_rest_token 𝒱₀ ER (Rd m) (c : Thread nD τ) none (κ := K (c, .inr (.inr i)))
      (wpE_waitDma2_eq 𝒱₀ (c : Thread nD τ) none Set.univ) (Set.mem_univ _) () (O := tally c l) (W := W) (R := 0) (m := 0) (T := ∅)
      (by rw [Nat.zero_add, hN]; exact (expect_rcv m c i).symm)) $$ [Hc HO Hat]
  · isplitr; · iapply (records_inv m K (c, .inr (.inr i))); iexact HR
    isplitl [Hc]; · rw [hN]; iexact Hc
    isplitl [HO]; · iexact HO
    isplitr
    · iapply (mayWait c (.dma (rS i)) l (2 + i.2.val) (le_of_eq (lv_rcv c i)) hl); iexact Hlev
    iexact Hat
  iintro ⟨HO, Hat, -, Hpay⟩
  ihave Hp := (show bigSep ((Rd m).duties ((c : Thread nD τ), .dma (rS i)) 0 \ ∅) (fun d => (Rd m).payload ((c : Thread nD τ), .dma (rS i)) 0 d)
    ⊢ recvPay m c i from Entails.of_eq (rest_rcv m c i)) $$ Hpay
  imod (Rounds.cell_close ER (Rd m) (Set.mem_univ (K (c, .inr (.inr i)))) (fun h => h) (R := 0 + 1) (duties_later m (rcvCell c i))) $$ [Hat] with Hz
  · isplitr; · iapply (records_inv m K (c, .inr (.inr i))); iexact HR
    iexact Hat
  iapply Hk
  isplitl [HO]; · iexists _; iexact HO
  isplitl [Hz]; · iexact Hz
  iexact Hp

/-! ## Reading and filling slots -/

/-- Reading a slot's rectangle gives the slot's contents, with unit axes in front. -/
theorem wp_take {S s' : Shape} {e : EltTy} {M : Memref sig .tc .vmem S e} {r : Rect S} {hr : ∀ a, r.stride a = 1} {hsq : r.shape.Squeezes s'}
    (hc : s'.numel = r.shape.numel) {X : s'.Idx → Elt F e} {hl : M.view.LoadsAt r.toLoadRect}
    {k : (r.shape.Idx → Elt F e) → Prog (TpuEff nD τ sig (Elt F) Λ₀ .tc) α} {Q : α → sProp 𝕄} :
    (owns (c : Thread nD τ) ((M.slice r hr).squeeze s' hsq) fullShare X : sProp 𝕄)
      ⊢ iprop((∀ w : r.shape.Idx → Elt F e, ⌜shapeCast s' w hc = X⌝ -∗ owns (c : Thread nD τ) ((M.slice r hr).squeeze s' hsq) fullShare X -∗ wpc c (k w) Q)
          -∗ wpc c (Prog.op (.load M r.toLoadRect hl) k) Q) := by
  unfold owns
  iintro ⟨%f, %hf, H⟩ Hk
  iapply (wp_load_rect 𝒱₀ (c : Thread nD τ) none Set.univ (m := M) (r := r) (S := ((M.slice r hr).squeeze s' hsq).view.set)
    (by exact (View.set_reshape (M.access r) _).ge)) $$ H
  iintro H
  iapply Hk $$ %((M.access r).read (Elt F) f) [] [H]
  · ipureintro; exact hf
  iexists f
  isplitr; · (ipureintro; exact hf)
  iexact H

/-- Filling a slot's rectangle, the value read there before not being used. -/
theorem wp_fill {S s' : Shape} {e : EltTy} {M : Memref sig .tc .vmem S e} {r : Rect S} {hr : ∀ a, r.stride a = 1} {hsq : r.shape.Squeezes s'}
    {w : r.shape.Idx → Elt F e} (X : s'.Idx → Elt F e) (hc : r.shape.numel = s'.numel) (hw : w = shapeCast r.shape X hc)
    {hl : M.view.LoadsAt r.toLoadRect} {hx : (M.access r).Stores Finset.univ} {hm : Finset.univ = Finset.univ ∨ ∀ a, r.stride a = 1}
    {k : PUnit → Prog (TpuEff nD τ sig (Elt F) Λ₀ .tc) α} {Q : α → sProp 𝕄} :
    (held c ((M.slice r hr).squeeze s' hsq) : sProp 𝕄)
      ⊢ iprop((owns (c : Thread nD τ) ((M.slice r hr).squeeze s' hsq) fullShare X -∗ wpc c (k ⟨⟩) Q)
          -∗ wpc c (Prog.op (.load M r.toLoadRect hl) fun _ => Prog.op (.store M r w Finset.univ hx hm) k) Q) := by
  subst hw
  iintro ⟨%f, H⟩ Hk
  iapply (wp_load_rect 𝒱₀ (c : Thread nD τ) none Set.univ (m := M) (r := r) (S := ((M.slice r hr).squeeze s' hsq).view.set)
    (by exact (View.set_reshape (M.access r) _).ge)) $$ H
  iintro H
  iapply (wp_store 𝒱₀ (c : Thread nD τ) none Set.univ (m := M) (r := r) (Mk := Finset.univ) (S := ((M.slice r hr).squeeze s' hsq).view.set)
    (by exact (View.set_reshape (M.access r) _).ge)) $$ H
  iintro H
  iapply Hk
  unfold owns
  iexists ((M.access r).write (Elt F) f (shapeCast r.shape X hc) Finset.univ)
  isplitr
  · ipureintro
    show shapeCast s' ((M.access r).read (Elt F) ((M.access r).write (Elt F) f (shapeCast r.shape X hc) Finset.univ)) hsq.numel_eq = X
    rw [View.read_write_univ]
    exact shapeCast_shapeCast X hc hsq.numel_eq
  iexact H

end Steps

/-! ## The kernel's arithmetic as steps of the recursive doubling -/

theorem acc0_step {r : ℕ} {c : Dev nD} {w : FVec F S160x512 .bf16} (hw : w = msg0 m r (fl (pat 0 r) c)) :
    addf (acc0 m r c) (extf .f32 w bitsLt_bf16_f32) = acc0 m (r + 1) c := by rw [hw]; rfl
theorem acc1_step {r : ℕ} {c : Dev nD} {w : FVec F S160x512 .bf16} (hw : w = msg1 m r (fl (pat 1 r) c)) :
    addf (acc1 m r c) (extf .f32 w bitsLt_bf16_f32) = acc1 m (r + 1) c := by rw [hw]; rfl
theorem acc2_step {r : ℕ} {c : Dev nD} {w : FVec F S192x512 .bf16} (hw : w = msg2 m r (fl (pat 2 r) c)) :
    addf (acc2 m r c) (extf .f32 w bitsLt_bf16_f32) = acc2 m (r + 1) c := by rw [hw]; rfl

/-! ## The slots a barrier round hands over -/

omit [FloatOps F] in
theorem barPay_zero (c : Dev nD) : (barPay c 0 : sProp 𝕄)
    ⊢ iprop(rSlot (peer (0, 0) c) (0, 0) ∗ rSlot (peer (1, 2) c) (1, 2) ∗ rSlot (peer (2, 1) c) (2, 1)) := BI.Entails.refl _
omit [FloatOps F] in
theorem barPay_one (c : Dev nD) : (barPay c 1 : sProp 𝕄)
    ⊢ iprop(rSlot (peer (0, 1) c) (0, 1) ∗ rSlot (peer (1, 0) c) (1, 0) ∗ rSlot (peer (2, 2) c) (2, 2)) := BI.Entails.refl _
omit [FloatOps F] in
theorem barPay_two (c : Dev nD) : (barPay c 2 : sProp 𝕄)
    ⊢ iprop(rSlot (peer (0, 2) c) (0, 2) ∗ rSlot (peer (1, 1) c) (1, 1) ∗ rSlot (peer (2, 0) c) (2, 0)) := BI.Entails.refl _

end Cert.Exchange

end
-- ==== Proof.Parts.lean ====
/-
# The kernel's thirteen parts and its last statements, one after the other

Each lemma runs one part of the kernel from what the part uses to what it leaves, by the step lemmas in program order.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- What is still owed once the first `n` transfers are issued. -/
abbrev left (n : ℕ) : List Due := sends.drop n

/-- A whole buffer of device `c` at contents `X`. -/
abbrev stg (c : Dev nD) (b : Ref sig .tc) (X : b.ty.Contents (Elt F)) : sProp 𝕄 := ((c : Thread nD τ).loc b) ↦{fullShare} X

theorem zeros2 : (![0, 0] : Fin 2 → Nat) = fun _ => 0 := funext fun a => by fin_cases a <;> rfl

/-- A whole buffer's load is its contents. -/
theorem all_x (f : (cc0_stg0_0 : Ref sig .tc).ty.Contents (Elt F)) :
    xM.view.readAt (Elt F) (Rect.unit (s := S512x512) ![0, 0] ![512, 512] inb_S512x512_S512x512_0_0).toLoadRect f = f :=
  Memref.readAt_unit_zero (Elt F) cc0_stg0_0 zeros2 _ f
theorem all_g (f : (cc0_stg1_0 : Ref sig .tc).ty.Contents (Elt F)) :
    gM.view.readAt (Elt F) (Rect.unit (s := S512x1024) ![0, 0] ![512, 1024] inb_S512x1024_S512x1024_0_0).toLoadRect f = f :=
  Memref.readAt_unit_zero (Elt F) cc0_stg1_0 zeros2 _ f
theorem all_u (f : (cc0_stg2_0 : Ref sig .tc).ty.Contents (Elt F)) :
    uM.view.readAt (Elt F) (Rect.unit (s := S512x1024) ![0, 0] ![512, 1024] inb_S512x1024_S512x1024_0_0).toLoadRect f = f :=
  Memref.readAt_unit_zero (Elt F) cc0_stg2_0 zeros2 _ f
theorem all_d (f : (cc0_stg3_0 : Ref sig .tc).ty.Contents (Elt F)) :
    dM.view.readAt (Elt F) (Rect.unit (s := S1024x512) ![0, 0] ![1024, 512] inb_S1024x512_S1024x512_0_0).toLoadRect f = f :=
  Memref.readAt_unit_zero (Elt F) cc0_stg3_0 zeros2 _ f

theorem recvPay_00 : recvPay m c (0, 0) ⊢ owns (c : Thread nD τ) (rA 0 0 inb_S3x3x192x512_S1x1x160x512_0_0_0_0) fullShare (msg0 m 0 (peer (0, 0) c)) := BI.Entails.refl _
theorem hR00 : (owns (peer (0, 0) c : Thread nD τ) (rA 0 0 inb_S3x3x192x512_S1x1x160x512_0_0_0_0) fullShare (msg0 m 0 c) : sProp 𝕄)
    ⊢ recvPay m (peer (0, 0) c) (0, 0) := by
  show _ ⊢ (owns (peer (0, 0) c : Thread nD τ) (rA 0 0 inb_S3x3x192x512_S1x1x160x512_0_0_0_0) fullShare (msg0 m 0 (peer (0, 0) (peer (0, 0) c))) : sProp 𝕄)
  unfold peer
  rw [fl_fl]
theorem read_00 {X : S160x512.Idx → Elt F .bf16} :
    (owns (c : Thread nD τ) (rA 0 0 inb_S3x3x192x512_S1x1x160x512_0_0_0_0) fullShare X : sProp 𝕄) ⊢ rSlot c (0, 0) := owns_held c (rA 0 0 inb_S3x3x192x512_S1x1x160x512_0_0_0_0) _
theorem recvPay_01 : recvPay m c (0, 1) ⊢ owns (c : Thread nD τ) (rA 0 1 inb_S3x3x192x512_S1x1x160x512_0_1_0_0) fullShare (msg0 m 1 (peer (0, 1) c)) := BI.Entails.refl _
theorem hR01 : (owns (peer (0, 1) c : Thread nD τ) (rA 0 1 inb_S3x3x192x512_S1x1x160x512_0_1_0_0) fullShare (msg0 m 1 c) : sProp 𝕄)
    ⊢ recvPay m (peer (0, 1) c) (0, 1) := by
  show _ ⊢ (owns (peer (0, 1) c : Thread nD τ) (rA 0 1 inb_S3x3x192x512_S1x1x160x512_0_1_0_0) fullShare (msg0 m 1 (peer (0, 1) (peer (0, 1) c))) : sProp 𝕄)
  unfold peer
  rw [fl_fl]
theorem read_01 {X : S160x512.Idx → Elt F .bf16} :
    (owns (c : Thread nD τ) (rA 0 1 inb_S3x3x192x512_S1x1x160x512_0_1_0_0) fullShare X : sProp 𝕄) ⊢ rSlot c (0, 1) := owns_held c (rA 0 1 inb_S3x3x192x512_S1x1x160x512_0_1_0_0) _
theorem recvPay_02 : recvPay m c (0, 2) ⊢ owns (c : Thread nD τ) (rA 0 2 inb_S3x3x192x512_S1x1x160x512_0_2_0_0) fullShare (msg0 m 2 (peer (0, 2) c)) := BI.Entails.refl _
theorem hR02 : (owns (peer (0, 2) c : Thread nD τ) (rA 0 2 inb_S3x3x192x512_S1x1x160x512_0_2_0_0) fullShare (msg0 m 2 c) : sProp 𝕄)
    ⊢ recvPay m (peer (0, 2) c) (0, 2) := by
  show _ ⊢ (owns (peer (0, 2) c : Thread nD τ) (rA 0 2 inb_S3x3x192x512_S1x1x160x512_0_2_0_0) fullShare (msg0 m 2 (peer (0, 2) (peer (0, 2) c))) : sProp 𝕄)
  unfold peer
  rw [fl_fl]
theorem read_02 {X : S160x512.Idx → Elt F .bf16} :
    (owns (c : Thread nD τ) (rA 0 2 inb_S3x3x192x512_S1x1x160x512_0_2_0_0) fullShare X : sProp 𝕄) ⊢ rSlot c (0, 2) := owns_held c (rA 0 2 inb_S3x3x192x512_S1x1x160x512_0_2_0_0) _
theorem recvPay_10 : recvPay m c (1, 0) ⊢ owns (c : Thread nD τ) (rA 1 0 inb_S3x3x192x512_S1x1x160x512_1_0_0_0) fullShare (msg1 m 0 (peer (1, 0) c)) := BI.Entails.refl _
theorem hR10 : (owns (peer (1, 0) c : Thread nD τ) (rA 1 0 inb_S3x3x192x512_S1x1x160x512_1_0_0_0) fullShare (msg1 m 0 c) : sProp 𝕄)
    ⊢ recvPay m (peer (1, 0) c) (1, 0) := by
  show _ ⊢ (owns (peer (1, 0) c : Thread nD τ) (rA 1 0 inb_S3x3x192x512_S1x1x160x512_1_0_0_0) fullShare (msg1 m 0 (peer (1, 0) (peer (1, 0) c))) : sProp 𝕄)
  unfold peer
  rw [fl_fl]
theorem read_10 {X : S160x512.Idx → Elt F .bf16} :
    (owns (c : Thread nD τ) (rA 1 0 inb_S3x3x192x512_S1x1x160x512_1_0_0_0) fullShare X : sProp 𝕄) ⊢ rSlot c (1, 0) := owns_held c (rA 1 0 inb_S3x3x192x512_S1x1x160x512_1_0_0_0) _
theorem recvPay_11 : recvPay m c (1, 1) ⊢ owns (c : Thread nD τ) (rA 1 1 inb_S3x3x192x512_S1x1x160x512_1_1_0_0) fullShare (msg1 m 1 (peer (1, 1) c)) := BI.Entails.refl _
theorem hR11 : (owns (peer (1, 1) c : Thread nD τ) (rA 1 1 inb_S3x3x192x512_S1x1x160x512_1_1_0_0) fullShare (msg1 m 1 c) : sProp 𝕄)
    ⊢ recvPay m (peer (1, 1) c) (1, 1) := by
  show _ ⊢ (owns (peer (1, 1) c : Thread nD τ) (rA 1 1 inb_S3x3x192x512_S1x1x160x512_1_1_0_0) fullShare (msg1 m 1 (peer (1, 1) (peer (1, 1) c))) : sProp 𝕄)
  unfold peer
  rw [fl_fl]
theorem read_11 {X : S160x512.Idx → Elt F .bf16} :
    (owns (c : Thread nD τ) (rA 1 1 inb_S3x3x192x512_S1x1x160x512_1_1_0_0) fullShare X : sProp 𝕄) ⊢ rSlot c (1, 1) := owns_held c (rA 1 1 inb_S3x3x192x512_S1x1x160x512_1_1_0_0) _
theorem recvPay_12 : recvPay m c (1, 2) ⊢ owns (c : Thread nD τ) (rA 1 2 inb_S3x3x192x512_S1x1x160x512_1_2_0_0) fullShare (msg1 m 2 (peer (1, 2) c)) := BI.Entails.refl _
theorem hR12 : (owns (peer (1, 2) c : Thread nD τ) (rA 1 2 inb_S3x3x192x512_S1x1x160x512_1_2_0_0) fullShare (msg1 m 2 c) : sProp 𝕄)
    ⊢ recvPay m (peer (1, 2) c) (1, 2) := by
  show _ ⊢ (owns (peer (1, 2) c : Thread nD τ) (rA 1 2 inb_S3x3x192x512_S1x1x160x512_1_2_0_0) fullShare (msg1 m 2 (peer (1, 2) (peer (1, 2) c))) : sProp 𝕄)
  unfold peer
  rw [fl_fl]
theorem read_12 {X : S160x512.Idx → Elt F .bf16} :
    (owns (c : Thread nD τ) (rA 1 2 inb_S3x3x192x512_S1x1x160x512_1_2_0_0) fullShare X : sProp 𝕄) ⊢ rSlot c (1, 2) := owns_held c (rA 1 2 inb_S3x3x192x512_S1x1x160x512_1_2_0_0) _
theorem recvPay_20 : recvPay m c (2, 0) ⊢ owns (c : Thread nD τ) (rC 2 0 inb_S3x3x192x512_S1x1x192x512_2_0_0_0) fullShare (msg2 m 0 (peer (2, 0) c)) := BI.Entails.refl _
theorem hR20 : (owns (peer (2, 0) c : Thread nD τ) (rC 2 0 inb_S3x3x192x512_S1x1x192x512_2_0_0_0) fullShare (msg2 m 0 c) : sProp 𝕄)
    ⊢ recvPay m (peer (2, 0) c) (2, 0) := by
  show _ ⊢ (owns (peer (2, 0) c : Thread nD τ) (rC 2 0 inb_S3x3x192x512_S1x1x192x512_2_0_0_0) fullShare (msg2 m 0 (peer (2, 0) (peer (2, 0) c))) : sProp 𝕄)
  unfold peer
  rw [fl_fl]
theorem read_20 {X : S192x512.Idx → Elt F .bf16} :
    (owns (c : Thread nD τ) (rC 2 0 inb_S3x3x192x512_S1x1x192x512_2_0_0_0) fullShare X : sProp 𝕄) ⊢ rSlot c (2, 0) := owns_held c (rC 2 0 inb_S3x3x192x512_S1x1x192x512_2_0_0_0) _
theorem recvPay_21 : recvPay m c (2, 1) ⊢ owns (c : Thread nD τ) (rC 2 1 inb_S3x3x192x512_S1x1x192x512_2_1_0_0) fullShare (msg2 m 1 (peer (2, 1) c)) := BI.Entails.refl _
theorem hR21 : (owns (peer (2, 1) c : Thread nD τ) (rC 2 1 inb_S3x3x192x512_S1x1x192x512_2_1_0_0) fullShare (msg2 m 1 c) : sProp 𝕄)
    ⊢ recvPay m (peer (2, 1) c) (2, 1) := by
  show _ ⊢ (owns (peer (2, 1) c : Thread nD τ) (rC 2 1 inb_S3x3x192x512_S1x1x192x512_2_1_0_0) fullShare (msg2 m 1 (peer (2, 1) (peer (2, 1) c))) : sProp 𝕄)
  unfold peer
  rw [fl_fl]
theorem read_21 {X : S192x512.Idx → Elt F .bf16} :
    (owns (c : Thread nD τ) (rC 2 1 inb_S3x3x192x512_S1x1x192x512_2_1_0_0) fullShare X : sProp 𝕄) ⊢ rSlot c (2, 1) := owns_held c (rC 2 1 inb_S3x3x192x512_S1x1x192x512_2_1_0_0) _
theorem recvPay_22 : recvPay m c (2, 2) ⊢ owns (c : Thread nD τ) (rC 2 2 inb_S3x3x192x512_S1x1x192x512_2_2_0_0) fullShare (msg2 m 2 (peer (2, 2) c)) := BI.Entails.refl _
theorem hR22 : (owns (peer (2, 2) c : Thread nD τ) (rC 2 2 inb_S3x3x192x512_S1x1x192x512_2_2_0_0) fullShare (msg2 m 2 c) : sProp 𝕄)
    ⊢ recvPay m (peer (2, 2) c) (2, 2) := by
  show _ ⊢ (owns (peer (2, 2) c : Thread nD τ) (rC 2 2 inb_S3x3x192x512_S1x1x192x512_2_2_0_0) fullShare (msg2 m 2 (peer (2, 2) (peer (2, 2) c))) : sProp 𝕄)
  unfold peer
  rw [fl_fl]
theorem read_22 {X : S192x512.Idx → Elt F .bf16} :
    (owns (c : Thread nD τ) (rC 2 2 inb_S3x3x192x512_S1x1x192x512_2_2_0_0) fullShare X : sProp 𝕄) ⊢ rSlot c (2, 2) := owns_held c (rC 2 2 inb_S3x3x192x512_S1x1x192x512_2_2_0_0) _
theorem sSlot_0 : sSlot c 0 ⊢ (held c (sA 0 inb_S3x192x512_S1x160x512_0_0_0) : sProp 𝕄) := BI.Entails.refl _
theorem sSlot_1 : sSlot c 1 ⊢ (held c (sA 1 inb_S3x192x512_S1x160x512_1_0_0) : sProp 𝕄) := BI.Entails.refl _
theorem sSlot_2 : sSlot c 2 ⊢ (held c (sC 2 inb_S3x192x512_S1x192x512_2_0_0) : sProp 𝕄) := BI.Entails.refl _

/-- A finished program leaves its value. -/
theorem wpc_ret {α : Type} {a : α} {Q : α → sProp 𝕄} : Q a ⊢ wpc c (Prog.ret a) Q := by
  unfold wpc
  rw [wp_ret]
  iintro H; imodintro; iexact H

/-- What a finished send gives back can be filled again. -/
theorem sent_held (i : I) : sendPay m c i ⊢ sSlot c i.1 := by
  obtain ⟨p, r⟩ := i
  fin_cases p <;> exact owns_held c _ _

/-- The barrier with the three partners, and the hidden activations. -/
theorem part1_spec  {Q : (Σ' (_ : Dev nD) (_ : BitVec 32) (_ : BitVec 32) (_ : BitVec 32), FVec F S512x1024 .bf16) → sProp 𝕄} :
    iprop(records m K ∗ levAts L lv ∗ owe c dues ∗ dutyTok ER (barCell (fl 0 c)) 0 0 ∗ dutyTok ER (barCell (fl 1 c)) 0 1 ∗ dutyTok ER (barCell (fl 2 c)) 0 2 ∗ rSlot c (0, 0) ∗ rSlot c (0, 1) ∗ rSlot c (0, 2) ∗ rSlot c (1, 0) ∗ rSlot c (1, 1) ∗ rSlot c (1, 2) ∗ rSlot c (2, 0) ∗ rSlot c (2, 1) ∗ rSlot c (2, 2) ∗ atPos ER (barCell c) 0 ∅ 0 ∗ cred (tallyAt (barCell c) () 3) ∗ stg c cc0_stg0_0 (xAt m c) ∗ stg c cc0_stg1_0 (gAt m c) ∗ stg c cc0_stg2_0 (uAt m c))
      ⊢ iprop((∀ v3 v7 v8, (owe c (left 0) ∗ semVal (barCell c) 0 ∗ rSlot (peer (0, 0) c) (0, 0) ∗ rSlot (peer (0, 1) c) (0, 1) ∗ rSlot (peer (0, 2) c) (0, 2) ∗ rSlot (peer (1, 0) c) (1, 0) ∗ rSlot (peer (1, 1) c) (1, 1) ∗ rSlot (peer (1, 2) c) (1, 2) ∗ rSlot (peer (2, 0) c) (2, 0) ∗ rSlot (peer (2, 1) c) (2, 1) ∗ rSlot (peer (2, 2) c) (2, 2) ∗ stg c cc0_stg0_0 (xAt m c) ∗ stg c cc0_stg1_0 (gAt m c) ∗ stg c cc0_stg2_0 (uAt m c)) -∗ Q ⟨c, v3, v7, v8, hAt m c⟩) -∗ wpc c (k0_part1 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 ) Q) := by
  rw [k0_part1_eq_skeleton]; unfold k0_part1_skel
  simp only [semSignalWord, semWaitWord, Prog.lift, Prog.bind_op, Prog.bind_ret, Prog.pure_eq_ret, wp_deviceId]
  iintro ⟨#HR, #Hlev, HO, HB0, HB1, HB2, Hr00, Hr01, Hr02, Hr10, Hr11, Hr12, Hr20, Hr21, Hr22, HatB, HcB, Hx, Hg, Hu⟩ Hk
  iapply (wp_sig m K c 0 (.inl 1 :: .inl 2 :: sends) (dev1_eq c)) $$ [HO HB0 Hr00 Hr12 Hr21]
  · isplitr; · iexact HR
    isplitl [HO]; · iexact HO
    isplitl [HB0]; · iexact HB0
    isplitl [Hr00]; · iexact Hr00
    isplitl [Hr12]; · iexact Hr12
    iexact Hr21
  iintro HO
  iapply (wp_sig m K c 1 (.inl 2 :: sends) (dev2_eq c)) $$ [HO HB1 Hr01 Hr10 Hr22]
  · isplitr; · iexact HR
    isplitl [HO]; · iexact HO
    isplitl [HB1]; · iexact HB1
    isplitl [Hr01]; · iexact Hr01
    isplitl [Hr10]; · iexact Hr10
    iexact Hr22
  iintro HO
  iapply (wp_sig m K c 2 sends (dev3_eq c)) $$ [HO HB2 Hr02 Hr11 Hr20]
  · isplitr; · iexact HR
    isplitl [HO]; · iexact HO
    isplitl [HB2]; · iexact HB2
    isplitl [Hr02]; · iexact Hr02
    isplitl [Hr11]; · iexact Hr11
    iexact Hr20
  iintro HO
  iapply (wp_bar m K c) $$ [HO HatB HcB]
  · isplitr; · iexact HR
    isplitr; · iexact Hlev
    isplitl [HO]; · iexact HO
    isplitl [HatB]; · iexact HatB
    iexact HcB
  iintro ⟨HO, HzB, H0, H1, H2⟩
  ihave H0 := (barPay_zero c) $$ H0
  ihave H1 := (barPay_one c) $$ H1
  ihave H2 := (barPay_two c) $$ H2
  icases H0 with ⟨HV00, HV12, HV21⟩
  icases H1 with ⟨HV01, HV10, HV22⟩
  icases H2 with ⟨HV02, HV11, HV20⟩
  iapply (wp_load 𝒱₀ (c : Thread nD τ) none Set.univ (m := xM) (Finset.subset_univ _)) $$ Hx; iintro Hx
  rw [all_x]
  iapply (wp_load 𝒱₀ (c : Thread nD τ) none Set.univ (m := gM) (Finset.subset_univ _)) $$ Hg; iintro Hg
  rw [all_g]
  iapply (wp_load 𝒱₀ (c : Thread nD τ) none Set.univ (m := uM) (Finset.subset_univ _)) $$ Hu; iintro Hu
  rw [all_u]
  have e : k0_pay2 (xAt m c) (gAt m c) (uAt m c) = hAt m c := rfl
  rw [e]
  iapply (wpc_ret c)
  iapply Hk
  isplitl [HO]; · iexact HO
  isplitl [HzB]; · iexact HzB
  isplitl [HV00]; · iexact HV00
  isplitl [HV01]; · iexact HV01
  isplitl [HV02]; · iexact HV02
  isplitl [HV10]; · iexact HV10
  isplitl [HV11]; · iexact HV11
  isplitl [HV12]; · iexact HV12
  isplitl [HV20]; · iexact HV20
  isplitl [HV21]; · iexact HV21
  isplitl [HV22]; · iexact HV22
  isplitl [Hx]; · iexact Hx
  isplitl [Hg]; · iexact Hg
  iexact Hu

/-- The first part is sent, the second filled in. -/
theorem part2_spec (v3 v7 : BitVec 32) {Q : (Σ' (_ : FVec F S1024x512 .bf16) (_ : FVec F S160x512 .f32), FVec F S160x512 .f32) → sProp 𝕄} :
    iprop(records m K ∗ levAts L lv ∗ owe c (left 0) ∗ payTok c (0, 0) ∗ sndTok c (0, 0) ∗ rSlot (peer (0, 0) c) (0, 0) ∗ sSlot c 0 ∗ sSlot c 1 ∗ stg c cc0_stg3_0 (dAt m c))
      ⊢ iprop(((owe c (left 1) ∗ sentTok c (0, 0) ∗ owns (c : Thread nD τ) (sA 1 inb_S3x192x512_S1x160x512_1_0_0) fullShare (msg1 m 0 c) ∗ stg c cc0_stg3_0 (dAt m c)) -∗ Q ⟨k0_pay3 (dAt m c), acc0 m 0 c, acc1 m 0 c⟩) -∗ wpc c (k0_part2 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v3 v7 (hAt m c)) Q) := by
  rw [k0_part2_eq_skeleton]; unfold k0_part2_skel
  simp only [semSignalWord, semWaitWord, Prog.lift, Prog.bind_op, Prog.bind_ret, Prog.pure_eq_ret, wp_deviceId]
  iintro ⟨#HR, #Hlev, HO, HP00, HS00, HV00, Hs0, Hs1, Hd⟩ Hk
  iapply (wp_load 𝒱₀ (c : Thread nD τ) none Set.univ (m := dM) (Finset.subset_univ _)) $$ Hd; iintro Hd
  rw [all_d]
  ihave Hs0 := (sSlot_0 c) $$ Hs0
  iapply (wp_fill c (M := sM) (msg0 m 0 c) shapeCasts_S160x512_S1x160x512 rfl) $$ Hs0
  iintro Hs0
  iapply (wp_snd m K c (0, 0) (left 1) (dev4_eq c) (by decide) (by decide) (BI.Entails.refl _) (hR00 m c) (BI.Entails.refl _) (by rfl)) $$ [HO HP00 HS00 HV00 Hs0]
  · isplitr; · iexact HR
    isplitl [HO]; · iexact HO
    isplitl [HP00]; · iexact HP00
    isplitl [HS00]; · iexact HS00
    isplitl [HV00]; · iexact HV00
    iexact Hs0
  iintro ⟨HO, HT00⟩
  ihave Hs1 := (sSlot_1 c) $$ Hs1
  iapply (wp_fill c (M := sM) (msg1 m 0 c) shapeCasts_S160x512_S1x160x512 rfl) $$ Hs1
  iintro Hs1
  have e : k0_pay4 (hAt m c) (dAt m c) = acc0 m 0 c := rfl
  have e' : k0_pay6 (hAt m c) (dAt m c) = acc1 m 0 c := rfl
  rw [e, e']
  iapply (wpc_ret c)
  iapply Hk
  isplitl [HO]; · iexact HO
  isplitl [HT00]; · iexact HT00
  isplitl [Hs1]; · iexact Hs1
  iexact Hd

/-- The second part is sent, the third filled in and sent. -/
theorem part3_spec (v8 : BitVec 32) {Q : FVec F S192x512 .f32 → sProp 𝕄} :
    iprop(records m K ∗ levAts L lv ∗ owe c (left 1) ∗ payTok c (1, 0) ∗ sndTok c (1, 0) ∗ rSlot (peer (1, 0) c) (1, 0) ∗ payTok c (2, 0) ∗ sndTok c (2, 0) ∗ rSlot (peer (2, 0) c) (2, 0) ∗ owns (c : Thread nD τ) (sA 1 inb_S3x192x512_S1x160x512_1_0_0) fullShare (msg1 m 0 c) ∗ sSlot c 2)
      ⊢ iprop(((owe c (left 3) ∗ sentTok c (1, 0) ∗ sentTok c (2, 0)) -∗ Q (acc2 m 0 c)) -∗ wpc c (k0_part3 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v8 (hAt m c) (k0_pay3 (dAt m c))) Q) := by
  rw [k0_part3_eq_skeleton]; unfold k0_part3_skel
  simp only [semSignalWord, semWaitWord, Prog.lift, Prog.bind_op, Prog.bind_ret, Prog.pure_eq_ret, wp_deviceId]
  iintro ⟨#HR, #Hlev, HO, HP10, HS10, HV10, HP20, HS20, HV20, Hs1, Hs2⟩ Hk
  iapply (wp_snd m K c (1, 0) (left 2) (dev5_eq c) (by decide) (by decide) (BI.Entails.refl _) (hR10 m c) (BI.Entails.refl _) (by rfl)) $$ [HO HP10 HS10 HV10 Hs1]
  · isplitr; · iexact HR
    isplitl [HO]; · iexact HO
    isplitl [HP10]; · iexact HP10
    isplitl [HS10]; · iexact HS10
    isplitl [HV10]; · iexact HV10
    iexact Hs1
  iintro ⟨HO, HT10⟩
  ihave Hs2 := (sSlot_2 c) $$ Hs2
  iapply (wp_fill c (M := sM) (msg2 m 0 c) shapeCasts_S192x512_S1x192x512 rfl) $$ Hs2
  iintro Hs2
  iapply (wp_snd m K c (2, 0) (left 3) (dev6_eq c) (by decide) (by decide) (BI.Entails.refl _) (hR20 m c) (BI.Entails.refl _) (by rfl)) $$ [HO HP20 HS20 HV20 Hs2]
  · isplitr; · iexact HR
    isplitl [HO]; · iexact HO
    isplitl [HP20]; · iexact HP20
    isplitl [HS20]; · iexact HS20
    isplitl [HV20]; · iexact HV20
    iexact Hs2
  iintro ⟨HO, HT20⟩
  have e : k0_pay8 (hAt m c) (k0_pay3 (dAt m c)) = acc2 m 0 c := rfl
  rw [e]
  iapply (wpc_ret c)
  iapply Hk
  isplitl [HO]; · iexact HO
  isplitl [HT10]; · iexact HT10
  iexact HT20

/-- The first part's first exchange ends; the new sum is filled in. -/
theorem part4_spec (v3 v7 : BitVec 32) {Q : FVec F S160x512 .f32 → sProp 𝕄} :
    iprop(records m K ∗ levAts L lv ∗ owe c (left 3) ∗ sentTok c (0, 0) ∗ rcvTok c (0, 0))
      ⊢ iprop(((owe c (left 3) ∗ semVal (sndCell c (0, 0)) 0 ∗ semVal (rcvCell c (0, 0)) 0 ∗ rSlot c (0, 0) ∗ owns (c : Thread nD τ) (sA 0 inb_S3x192x512_S1x160x512_0_0_0) fullShare (msg0 m 1 c)) -∗ Q (acc0 m 1 c)) -∗ wpc c (k0_part4 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 v3 v7 (acc0 m 0 c)) Q) := by
  rw [k0_part4_eq_skeleton]; unfold k0_part4_skel
  simp only [semSignalWord, semWaitWord, Prog.lift, Prog.bind_op, Prog.bind_ret, Prog.pure_eq_ret, wp_deviceId]
  iintro ⟨#HR, #Hlev, HO, HT00, HC00⟩ Hk
  iapply (wp_sent m K c (0, 0) (left 3) (by decide) (by decide) (by rfl)) $$ [HO HT00]
  · isplitr; · iexact HR
    isplitr; · iexact Hlev
    isplitl [HO]; · iexact HO
    iexact HT00
  iintro ⟨HO, Hzs00, Hs0⟩
  ihave Hs0 := (sent_held m c (0, 0)) $$ Hs0
  iapply (wp_rcv m K c (0, 0) (left 3) (by decide) (by decide) (by rfl)) $$ [HO HC00]
  · isplitr; · iexact HR
    isplitr; · iexact Hlev
    isplitl [HO]; · iexact HO
    iexact HC00
  iintro ⟨HO, Hzr00, Hr00⟩
  ihave Hr00 := (recvPay_00 m c) $$ Hr00
  iapply (wp_take c (M := rM) shapeCasts_S1x1x160x512_S160x512) $$ Hr00
  iintro %w %hw Hr00
  ihave Hr00 := (read_00 c) $$ Hr00
  have e : k0_pay10 (acc0 m 0 c) w = acc0 m 1 c := acc0_step m hw
  ihave Hs0 := (sSlot_0 c) $$ Hs0
  iapply (wp_fill c (M := sM) (msg0 m 1 c) shapeCasts_S160x512_S1x160x512 (by unfold k0_pay11; rw [e]; rfl)) $$ Hs0
  iintro Hs0
  rw [e]
  iapply (wpc_ret c)
  iapply Hk
  isplitl [HO]; · iexact HO
  isplitl [Hzs00]; · iexact Hzs00
  isplitl [Hzr00]; · iexact Hzr00
  isplitl [Hr00]; · iexact Hr00
  iexact Hs0

/-- The first part is sent again; the second part's first exchange ends. -/
theorem part5_spec (v7 : BitVec 32) {Q : (Σ' (_ : FVec F S160x512 .f32), FVec F S160x512 .bf16) → sProp 𝕄} :
    iprop(records m K ∗ levAts L lv ∗ owe c (left 3) ∗ payTok c (0, 1) ∗ sndTok c (0, 1) ∗ rSlot (peer (0, 1) c) (0, 1) ∗ owns (c : Thread nD τ) (sA 0 inb_S3x192x512_S1x160x512_0_0_0) fullShare (msg0 m 1 c) ∗ sentTok c (1, 0) ∗ rcvTok c (1, 0))
      ⊢ iprop(((owe c (left 4) ∗ sentTok c (0, 1) ∗ semVal (sndCell c (1, 0)) 0 ∗ semVal (rcvCell c (1, 0)) 0 ∗ rSlot c (1, 0) ∗ sSlot c 1) -∗ Q ⟨acc1 m 1 c, msg1 m 1 c⟩) -∗ wpc c (k0_part5 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v7 (acc1 m 0 c)) Q) := by
  rw [k0_part5_eq_skeleton]; unfold k0_part5_skel
  simp only [semSignalWord, semWaitWord, Prog.lift, Prog.bind_op, Prog.bind_ret, Prog.pure_eq_ret, wp_deviceId]
  iintro ⟨#HR, #Hlev, HO, HP01, HS01, HV01, Hs0, HT10, HC10⟩ Hk
  iapply (wp_snd m K c (0, 1) (left 4) (dev7_eq c) (by decide) (by decide) (BI.Entails.refl _) (hR01 m c) (BI.Entails.refl _) (by rfl)) $$ [HO HP01 HS01 HV01 Hs0]
  · isplitr; · iexact HR
    isplitl [HO]; · iexact HO
    isplitl [HP01]; · iexact HP01
    isplitl [HS01]; · iexact HS01
    isplitl [HV01]; · iexact HV01
    iexact Hs0
  iintro ⟨HO, HT01⟩
  iapply (wp_sent m K c (1, 0) (left 4) (by decide) (by decide) (by rfl)) $$ [HO HT10]
  · isplitr; · iexact HR
    isplitr; · iexact Hlev
    isplitl [HO]; · iexact HO
    iexact HT10
  iintro ⟨HO, Hzs10, Hs1⟩
  ihave Hs1 := (sent_held m c (1, 0)) $$ Hs1
  iapply (wp_rcv m K c (1, 0) (left 4) (by decide) (by decide) (by rfl)) $$ [HO HC10]
  · isplitr; · iexact HR
    isplitr; · iexact Hlev
    isplitl [HO]; · iexact HO
    iexact HC10
  iintro ⟨HO, Hzr10, Hr10⟩
  ihave Hr10 := (recvPay_10 m c) $$ Hr10
  iapply (wp_take c (M := rM) shapeCasts_S1x1x160x512_S160x512) $$ Hr10
  iintro %w %hw Hr10
  ihave Hr10 := (read_10 c) $$ Hr10
  have e : k0_pay12 (acc1 m 0 c) w = acc1 m 1 c := acc1_step m hw
  have e' : k0_pay13 (acc1 m 0 c) w = msg1 m 1 c := by unfold k0_pay13; rw [e]; rfl
  rw [e, e']
  iapply (wpc_ret c)
  iapply Hk
  isplitl [HO]; · iexact HO
  isplitl [HT01]; · iexact HT01
  isplitl [Hzs10]; · iexact Hzs10
  isplitl [Hzr10]; · iexact Hzr10
  isplitl [Hr10]; · iexact Hr10
  iexact Hs1

/-- The second part is filled in and sent again; the third part's first send ends. -/
theorem part6_spec (v8 : BitVec 32) {Q : PUnit → sProp 𝕄} :
    iprop(records m K ∗ levAts L lv ∗ owe c (left 4) ∗ sSlot c 1 ∗ payTok c (1, 1) ∗ sndTok c (1, 1) ∗ rSlot (peer (1, 1) c) (1, 1) ∗ sentTok c (2, 0))
      ⊢ iprop(((owe c (left 5) ∗ sentTok c (1, 1) ∗ semVal (sndCell c (2, 0)) 0 ∗ sSlot c 2) -∗ Q ⟨⟩) -∗ wpc c (k0_part6 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v8 (msg1 m 1 c)) Q) := by
  rw [k0_part6_eq_skeleton]; unfold k0_part6_skel
  simp only [semSignalWord, semWaitWord, Prog.lift, Prog.bind_op, Prog.bind_ret, Prog.pure_eq_ret, wp_deviceId]
  iintro ⟨#HR, #Hlev, HO, Hs1, HP11, HS11, HV11, HT20⟩ Hk
  ihave Hs1 := (sSlot_1 c) $$ Hs1
  iapply (wp_fill c (M := sM) (msg1 m 1 c) shapeCasts_S160x512_S1x160x512 rfl) $$ Hs1
  iintro Hs1
  iapply (wp_snd m K c (1, 1) (left 5) (dev8_eq c) (by decide) (by decide) (BI.Entails.refl _) (hR11 m c) (BI.Entails.refl _) (by rfl)) $$ [HO HP11 HS11 HV11 Hs1]
  · isplitr; · iexact HR
    isplitl [HO]; · iexact HO
    isplitl [HP11]; · iexact HP11
    isplitl [HS11]; · iexact HS11
    isplitl [HV11]; · iexact HV11
    iexact Hs1
  iintro ⟨HO, HT11⟩
  iapply (wp_sent m K c (2, 0) (left 5) (by decide) (by decide) (by rfl)) $$ [HO HT20]
  · isplitr; · iexact HR
    isplitr; · iexact Hlev
    isplitl [HO]; · iexact HO
    iexact HT20
  iintro ⟨HO, Hzs20, Hs2⟩
  ihave Hs2 := (sent_held m c (2, 0)) $$ Hs2
  iapply (wpc_ret c)
  iapply Hk
  isplitl [HO]; · iexact HO
  isplitl [HT11]; · iexact HT11
  isplitl [Hzs20]; · iexact Hzs20
  iexact Hs2

/-- The third part's first exchange ends; it is filled in and sent again. -/
theorem part7_spec (v3 : BitVec 32) {Q : FVec F S192x512 .f32 → sProp 𝕄} :
    iprop(records m K ∗ levAts L lv ∗ owe c (left 5) ∗ rcvTok c (2, 0) ∗ sSlot c 2 ∗ payTok c (2, 1) ∗ sndTok c (2, 1) ∗ rSlot (peer (2, 1) c) (2, 1))
      ⊢ iprop(((owe c (left 6) ∗ semVal (rcvCell c (2, 0)) 0 ∗ rSlot c (2, 0) ∗ sentTok c (2, 1)) -∗ Q (acc2 m 1 c)) -∗ wpc c (k0_part7 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v3 (acc2 m 0 c)) Q) := by
  rw [k0_part7_eq_skeleton]; unfold k0_part7_skel
  simp only [semSignalWord, semWaitWord, Prog.lift, Prog.bind_op, Prog.bind_ret, Prog.pure_eq_ret, wp_deviceId]
  iintro ⟨#HR, #Hlev, HO, HC20, Hs2, HP21, HS21, HV21⟩ Hk
  iapply (wp_rcv m K c (2, 0) (left 5) (by decide) (by decide) (by rfl)) $$ [HO HC20]
  · isplitr; · iexact HR
    isplitr; · iexact Hlev
    isplitl [HO]; · iexact HO
    iexact HC20
  iintro ⟨HO, Hzr20, Hr20⟩
  ihave Hr20 := (recvPay_20 m c) $$ Hr20
  iapply (wp_take c (M := rM) shapeCasts_S1x1x192x512_S192x512) $$ Hr20
  iintro %w %hw Hr20
  ihave Hr20 := (read_20 c) $$ Hr20
  have e : k0_pay15 (acc2 m 0 c) w = acc2 m 1 c := acc2_step m hw
  ihave Hs2 := (sSlot_2 c) $$ Hs2
  iapply (wp_fill c (M := sM) (msg2 m 1 c) shapeCasts_S192x512_S1x192x512 (by unfold k0_pay16; rw [e]; rfl)) $$ Hs2
  iintro Hs2
  iapply (wp_snd m K c (2, 1) (left 6) (dev9_eq c) (by decide) (by decide) (BI.Entails.refl _) (hR21 m c) (BI.Entails.refl _) (by rfl)) $$ [HO HP21 HS21 HV21 Hs2]
  · isplitr; · iexact HR
    isplitl [HO]; · iexact HO
    isplitl [HP21]; · iexact HP21
    isplitl [HS21]; · iexact HS21
    isplitl [HV21]; · iexact HV21
    iexact Hs2
  iintro ⟨HO, HT21⟩
  rw [e]
  iapply (wpc_ret c)
  iapply Hk
  isplitl [HO]; · iexact HO
  isplitl [Hzr20]; · iexact Hzr20
  isplitl [Hr20]; · iexact Hr20
  iexact HT21

/-- The first part's second exchange ends; the new sum is filled in. -/
theorem part8_spec (v7 v8 : BitVec 32) {Q : FVec F S160x512 .f32 → sProp 𝕄} :
    iprop(records m K ∗ levAts L lv ∗ owe c (left 6) ∗ sentTok c (0, 1) ∗ rcvTok c (0, 1))
      ⊢ iprop(((owe c (left 6) ∗ semVal (sndCell c (0, 1)) 0 ∗ semVal (rcvCell c (0, 1)) 0 ∗ rSlot c (0, 1) ∗ owns (c : Thread nD τ) (sA 0 inb_S3x192x512_S1x160x512_0_0_0) fullShare (msg0 m 2 c)) -∗ Q (acc0 m 2 c)) -∗ wpc c (k0_part8 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 v7 v8 (acc0 m 1 c)) Q) := by
  rw [k0_part8_eq_skeleton]; unfold k0_part8_skel
  simp only [semSignalWord, semWaitWord, Prog.lift, Prog.bind_op, Prog.bind_ret, Prog.pure_eq_ret, wp_deviceId]
  iintro ⟨#HR, #Hlev, HO, HT01, HC01⟩ Hk
  iapply (wp_sent m K c (0, 1) (left 6) (by decide) (by decide) (by rfl)) $$ [HO HT01]
  · isplitr; · iexact HR
    isplitr; · iexact Hlev
    isplitl [HO]; · iexact HO
    iexact HT01
  iintro ⟨HO, Hzs01, Hs0⟩
  ihave Hs0 := (sent_held m c (0, 1)) $$ Hs0
  iapply (wp_rcv m K c (0, 1) (left 6) (by decide) (by decide) (by rfl)) $$ [HO HC01]
  · isplitr; · iexact HR
    isplitr; · iexact Hlev
    isplitl [HO]; · iexact HO
    iexact HC01
  iintro ⟨HO, Hzr01, Hr01⟩
  ihave Hr01 := (recvPay_01 m c) $$ Hr01
  iapply (wp_take c (M := rM) shapeCasts_S1x1x160x512_S160x512) $$ Hr01
  iintro %w %hw Hr01
  ihave Hr01 := (read_01 c) $$ Hr01
  have e : k0_pay17 (acc0 m 1 c) w = acc0 m 2 c := acc0_step m hw
  ihave Hs0 := (sSlot_0 c) $$ Hs0
  iapply (wp_fill c (M := sM) (msg0 m 2 c) shapeCasts_S160x512_S1x160x512 (by unfold k0_pay18; rw [e]; rfl)) $$ Hs0
  iintro Hs0
  rw [e]
  iapply (wpc_ret c)
  iapply Hk
  isplitl [HO]; · iexact HO
  isplitl [Hzs01]; · iexact Hzs01
  isplitl [Hzr01]; · iexact Hzr01
  isplitl [Hr01]; · iexact Hr01
  iexact Hs0

/-- The first part is sent for the last time; the second part's second exchange ends. -/
theorem part9_spec (v8 : BitVec 32) {Q : FVec F S160x512 .f32 → sProp 𝕄} :
    iprop(records m K ∗ levAts L lv ∗ owe c (left 6) ∗ payTok c (0, 2) ∗ sndTok c (0, 2) ∗ rSlot (peer (0, 2) c) (0, 2) ∗ owns (c : Thread nD τ) (sA 0 inb_S3x192x512_S1x160x512_0_0_0) fullShare (msg0 m 2 c) ∗ sentTok c (1, 1) ∗ rcvTok c (1, 1))
      ⊢ iprop(((owe c (left 7) ∗ sentTok c (0, 2) ∗ semVal (sndCell c (1, 1)) 0 ∗ semVal (rcvCell c (1, 1)) 0 ∗ rSlot c (1, 1) ∗ sSlot c 1) -∗ Q (extf .f32 (msg1 m 1 (peer (1, 1) c)) bitsLt_bf16_f32)) -∗ wpc c (k0_part9 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v8) Q) := by
  rw [k0_part9_eq_skeleton]; unfold k0_part9_skel
  simp only [semSignalWord, semWaitWord, Prog.lift, Prog.bind_op, Prog.bind_ret, Prog.pure_eq_ret, wp_deviceId]
  iintro ⟨#HR, #Hlev, HO, HP02, HS02, HV02, Hs0, HT11, HC11⟩ Hk
  iapply (wp_snd m K c (0, 2) (left 7) (dev10_eq c) (by decide) (by decide) (BI.Entails.refl _) (hR02 m c) (BI.Entails.refl _) (by rfl)) $$ [HO HP02 HS02 HV02 Hs0]
  · isplitr; · iexact HR
    isplitl [HO]; · iexact HO
    isplitl [HP02]; · iexact HP02
    isplitl [HS02]; · iexact HS02
    isplitl [HV02]; · iexact HV02
    iexact Hs0
  iintro ⟨HO, HT02⟩
  iapply (wp_sent m K c (1, 1) (left 7) (by decide) (by decide) (by rfl)) $$ [HO HT11]
  · isplitr; · iexact HR
    isplitr; · iexact Hlev
    isplitl [HO]; · iexact HO
    iexact HT11
  iintro ⟨HO, Hzs11, Hs1⟩
  ihave Hs1 := (sent_held m c (1, 1)) $$ Hs1
  iapply (wp_rcv m K c (1, 1) (left 7) (by decide) (by decide) (by rfl)) $$ [HO HC11]
  · isplitr; · iexact HR
    isplitr; · iexact Hlev
    isplitl [HO]; · iexact HO
    iexact HC11
  iintro ⟨HO, Hzr11, Hr11⟩
  ihave Hr11 := (recvPay_11 m c) $$ Hr11
  iapply (wp_take c (M := rM) shapeCasts_S1x1x160x512_S160x512) $$ Hr11
  iintro %w %hw Hr11
  ihave Hr11 := (read_11 c) $$ Hr11
  have e : k0_pay19 w = extf .f32 (msg1 m 1 (peer (1, 1) c)) bitsLt_bf16_f32 := by unfold k0_pay19; rw [← hw]
  rw [e]
  iapply (wpc_ret c)
  iapply Hk
  isplitl [HO]; · iexact HO
  isplitl [HT02]; · iexact HT02
  isplitl [Hzs11]; · iexact Hzs11
  isplitl [Hzr11]; · iexact Hzr11
  isplitl [Hr11]; · iexact Hr11
  iexact Hs1

/-- The second part is filled in and sent for the last time; the third part's second send ends. -/
theorem part10_spec (v3 : BitVec 32) {Q : (Σ' (_ : FVec F S160x512 .f32), BitVec 32) → sProp 𝕄} :
    iprop(records m K ∗ levAts L lv ∗ owe c (left 7) ∗ sSlot c 1 ∗ payTok c (1, 2) ∗ sndTok c (1, 2) ∗ rSlot (peer (1, 2) c) (1, 2) ∗ sentTok c (2, 1))
      ⊢ iprop(((owe c (left 8) ∗ sentTok c (1, 2) ∗ semVal (sndCell c (2, 1)) 0 ∗ sSlot c 2) -∗ Q ⟨acc1 m 2 c, 1#32⟩) -∗ wpc c (k0_part10 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v3 (acc1 m 1 c) (extf .f32 (msg1 m 1 (peer (1, 1) c)) bitsLt_bf16_f32)) Q) := by
  rw [k0_part10_eq_skeleton]; unfold k0_part10_skel
  simp only [semSignalWord, semWaitWord, Prog.lift, Prog.bind_op, Prog.bind_ret, Prog.pure_eq_ret, wp_deviceId]
  iintro ⟨#HR, #Hlev, HO, Hs1, HP12, HS12, HV12, HT21⟩ Hk
  have e : k0_pay20 (acc1 m 1 c) (extf .f32 (msg1 m 1 (peer (1, 1) c)) bitsLt_bf16_f32) = acc1 m 2 c := acc1_step m rfl
  ihave Hs1 := (sSlot_1 c) $$ Hs1
  iapply (wp_fill c (M := sM) (msg1 m 2 c) shapeCasts_S160x512_S1x160x512 (by unfold k0_pay21; rw [e]; rfl)) $$ Hs1
  iintro Hs1
  iapply (wp_snd m K c (1, 2) (left 8) (dev11_eq c) (by decide) (by decide) (BI.Entails.refl _) (hR12 m c) (BI.Entails.refl _) (by rfl)) $$ [HO HP12 HS12 HV12 Hs1]
  · isplitr; · iexact HR
    isplitl [HO]; · iexact HO
    isplitl [HP12]; · iexact HP12
    isplitl [HS12]; · iexact HS12
    isplitl [HV12]; · iexact HV12
    iexact Hs1
  iintro ⟨HO, HT12⟩
  iapply (wp_sent m K c (2, 1) (left 8) (by decide) (by decide) (by rfl)) $$ [HO HT21]
  · isplitr; · iexact HR
    isplitr; · iexact Hlev
    isplitl [HO]; · iexact HO
    iexact HT21
  iintro ⟨HO, Hzs21, Hs2⟩
  ihave Hs2 := (sent_held m c (2, 1)) $$ Hs2
  rw [e]
  iapply (wpc_ret c)
  iapply Hk
  isplitl [HO]; · iexact HO
  isplitl [HT12]; · iexact HT12
  isplitl [Hzs21]; · iexact Hzs21
  iexact Hs2

/-- The third part's second exchange ends; it is filled in and sent for the last time. -/
theorem part11_spec (v3 v7 v : BitVec 32) {Q : FVec F S192x512 .f32 → sProp 𝕄} :
    iprop(records m K ∗ levAts L lv ∗ owe c (left 8) ∗ rcvTok c (2, 1) ∗ sSlot c 2 ∗ payTok c (2, 2) ∗ sndTok c (2, 2) ∗ rSlot (peer (2, 2) c) (2, 2))
      ⊢ iprop(((owe c (left 9) ∗ semVal (rcvCell c (2, 1)) 0 ∗ rSlot c (2, 1) ∗ sentTok c (2, 2)) -∗ Q (acc2 m 2 c)) -∗ wpc c (k0_part11 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 c v3 v7 (acc2 m 1 c) v) Q) := by
  rw [k0_part11_eq_skeleton]; unfold k0_part11_skel
  simp only [semSignalWord, semWaitWord, Prog.lift, Prog.bind_op, Prog.bind_ret, Prog.pure_eq_ret, wp_deviceId]
  iintro ⟨#HR, #Hlev, HO, HC21, Hs2, HP22, HS22, HV22⟩ Hk
  iapply (wp_rcv m K c (2, 1) (left 8) (by decide) (by decide) (by rfl)) $$ [HO HC21]
  · isplitr; · iexact HR
    isplitr; · iexact Hlev
    isplitl [HO]; · iexact HO
    iexact HC21
  iintro ⟨HO, Hzr21, Hr21⟩
  ihave Hr21 := (recvPay_21 m c) $$ Hr21
  iapply (wp_take c (M := rM) shapeCasts_S1x1x192x512_S192x512) $$ Hr21
  iintro %w %hw Hr21
  ihave Hr21 := (read_21 c) $$ Hr21
  have e : k0_pay22 (acc2 m 1 c) w = acc2 m 2 c := acc2_step m hw
  ihave Hs2 := (sSlot_2 c) $$ Hs2
  iapply (wp_fill c (M := sM) (msg2 m 2 c) shapeCasts_S192x512_S1x192x512 (by unfold k0_pay23; rw [e]; rfl)) $$ Hs2
  iintro Hs2
  iapply (wp_snd m K c (2, 2) (left 9) (dev12_eq c) (by decide) (by decide) (BI.Entails.refl _) (hR22 m c) (BI.Entails.refl _) (by rfl)) $$ [HO HP22 HS22 HV22 Hs2]
  · isplitr; · iexact HR
    isplitl [HO]; · iexact HO
    isplitl [HP22]; · iexact HP22
    isplitl [HS22]; · iexact HS22
    isplitl [HV22]; · iexact HV22
    iexact Hs2
  iintro ⟨HO, HT22⟩
  rw [e]
  iapply (wpc_ret c)
  iapply Hk
  isplitl [HO]; · iexact HO
  isplitl [Hzr21]; · iexact Hzr21
  isplitl [Hr21]; · iexact Hr21
  iexact HT22

/-- The rows of the result taken by each part. -/
abbrev o0 : Rect S512x512 := Rect.unit (s := S512x512) ![0, 0] S160x512.size inb_S512x512_S160x512_0_0
abbrev o1 : Rect S512x512 := Rect.unit (s := S512x512) ![160, 0] S160x512.size inb_S512x512_S160x512_160_0
abbrev o2 : Rect S512x512 := Rect.unit (s := S512x512) ![320, 0] S192x512.size inb_S512x512_S192x512_320_0

/-- The result buffer `f` with `w` written over the rows `r`. -/
abbrev put (r : Rect S512x512) (f : (cc0_stg4_0 : Ref sig .tc).ty.Contents (Elt F)) (w : r.shape.Idx → F .f32) :
    (cc0_stg4_0 : Ref sig .tc).ty.Contents (Elt F) :=
  ((oM : Memref sig .tc .vmem S512x512 .f32).access r : View sig .tc _ _ _).write (Elt F) f w Finset.univ

/-- A part's rows stored in the result, the value read there before not being used. -/
theorem wp_put {α : Type} {r : Rect S512x512} {w : r.shape.Idx → F .f32} {f : (cc0_stg4_0 : Ref sig .tc).ty.Contents (Elt F)}
    {hl : oM.view.LoadsAt r.toLoadRect} {hx : ((oM : Memref sig .tc .vmem S512x512 .f32).access r).Stores Finset.univ}
    {hm : Finset.univ = Finset.univ ∨ ∀ a, r.stride a = 1}
    {k : PUnit → Prog (TpuEff nD τ sig (Elt F) Λ₀ .tc) α} {Q : α → sProp 𝕄} :
    (stg c cc0_stg4_0 f : sProp 𝕄)
      ⊢ iprop((stg c cc0_stg4_0 (put r f w) -∗ wpc c (k ⟨⟩) Q)
          -∗ wpc c (Prog.op (.load oM r.toLoadRect hl) fun _ => Prog.op (.store oM r w Finset.univ hx hm) k) Q) := by
  iintro Ho Hk
  iapply (wp_load 𝒱₀ (c : Thread nD τ) none Set.univ (m := oM) (Finset.subset_univ _)) $$ Ho; iintro Ho
  iapply (wp_store 𝒱₀ (c : Thread nD τ) none Set.univ (m := oM) (r := r) (Mk := Finset.univ) (Finset.subset_univ _)) $$ Ho; iintro Ho
  iapply Hk
  iexact Ho

/-- The first part's last exchange ends; its sum is stored. -/
theorem part12_spec (v8 : BitVec 32) (f : (cc0_stg4_0 : Ref sig .tc).ty.Contents (Elt F)) {Q : PUnit → sProp 𝕄} :
    iprop(records m K ∗ levAts L lv ∗ owe c (left 9) ∗ sentTok c (0, 2) ∗ rcvTok c (0, 2) ∗ stg c cc0_stg4_0 f)
      ⊢ iprop(((owe c (left 9) ∗ semVal (sndCell c (0, 2)) 0 ∗ semVal (rcvCell c (0, 2)) 0 ∗ rSlot c (0, 2) ∗ sSlot c 0 ∗ stg c cc0_stg4_0 (put o0 f (acc0 m 3 c))) -∗ Q ⟨⟩) -∗ wpc c (k0_part12 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 v8 (acc0 m 2 c)) Q) := by
  rw [k0_part12_eq_skeleton]; unfold k0_part12_skel
  simp only [semSignalWord, semWaitWord, Prog.lift, Prog.bind_op, Prog.bind_ret, Prog.pure_eq_ret, wp_deviceId]
  iintro ⟨#HR, #Hlev, HO, HT02, HC02, Ho⟩ Hk
  iapply (wp_sent m K c (0, 2) (left 9) (by decide) (by decide) (by rfl)) $$ [HO HT02]
  · isplitr; · iexact HR
    isplitr; · iexact Hlev
    isplitl [HO]; · iexact HO
    iexact HT02
  iintro ⟨HO, Hzs02, Hs0⟩
  ihave Hs0 := (sent_held m c (0, 2)) $$ Hs0
  iapply (wp_rcv m K c (0, 2) (left 9) (by decide) (by decide) (by rfl)) $$ [HO HC02]
  · isplitr; · iexact HR
    isplitr; · iexact Hlev
    isplitl [HO]; · iexact HO
    iexact HC02
  iintro ⟨HO, Hzr02, Hr02⟩
  ihave Hr02 := (recvPay_02 m c) $$ Hr02
  iapply (wp_take c (M := rM) shapeCasts_S1x1x160x512_S160x512) $$ Hr02
  iintro %w %hw Hr02
  ihave Hr02 := (read_02 c) $$ Hr02
  have e : k0_pay24 (acc0 m 2 c) w = acc0 m 3 c := acc0_step m hw
  rw [e]
  iapply (wp_put c) $$ Ho; iintro Ho
  iapply (wpc_ret c)
  iapply Hk
  isplitl [HO]; · iexact HO
  isplitl [Hzs02]; · iexact Hzs02
  isplitl [Hzr02]; · iexact Hzr02
  isplitl [Hr02]; · iexact Hr02
  isplitl [Hs0]; · iexact Hs0
  iexact Ho

/-- The second part's last exchange ends; its sum is stored. The third part's last send ends. -/
theorem part13_spec (v3 : BitVec 32) (f : (cc0_stg4_0 : Ref sig .tc).ty.Contents (Elt F)) {Q : PUnit → sProp 𝕄} :
    iprop(records m K ∗ levAts L lv ∗ owe c (left 9) ∗ sentTok c (1, 2) ∗ rcvTok c (1, 2) ∗ sentTok c (2, 2) ∗ stg c cc0_stg4_0 f)
      ⊢ iprop(((owe c (left 9) ∗ semVal (sndCell c (1, 2)) 0 ∗ semVal (rcvCell c (1, 2)) 0 ∗ rSlot c (1, 2) ∗ sSlot c 1 ∗ semVal (sndCell c (2, 2)) 0 ∗ sSlot c 2 ∗ stg c cc0_stg4_0 (put o1 f (acc1 m 3 c))) -∗ Q ⟨⟩) -∗ wpc c (k0_part13 xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3 v3 (acc1 m 2 c)) Q) := by
  rw [k0_part13_eq_skeleton]; unfold k0_part13_skel
  simp only [semSignalWord, semWaitWord, Prog.lift, Prog.bind_op, Prog.bind_ret, Prog.pure_eq_ret, wp_deviceId]
  iintro ⟨#HR, #Hlev, HO, HT12, HC12, HT22, Ho⟩ Hk
  iapply (wp_sent m K c (1, 2) (left 9) (by decide) (by decide) (by rfl)) $$ [HO HT12]
  · isplitr; · iexact HR
    isplitr; · iexact Hlev
    isplitl [HO]; · iexact HO
    iexact HT12
  iintro ⟨HO, Hzs12, Hs1⟩
  ihave Hs1 := (sent_held m c (1, 2)) $$ Hs1
  iapply (wp_rcv m K c (1, 2) (left 9) (by decide) (by decide) (by rfl)) $$ [HO HC12]
  · isplitr; · iexact HR
    isplitr; · iexact Hlev
    isplitl [HO]; · iexact HO
    iexact HC12
  iintro ⟨HO, Hzr12, Hr12⟩
  ihave Hr12 := (recvPay_12 m c) $$ Hr12
  iapply (wp_take c (M := rM) shapeCasts_S1x1x160x512_S160x512) $$ Hr12
  iintro %w %hw Hr12
  ihave Hr12 := (read_12 c) $$ Hr12
  have e : k0_pay25 (acc1 m 2 c) w = acc1 m 3 c := acc1_step m hw
  rw [e]
  iapply (wp_put c) $$ Ho; iintro Ho
  iapply (wp_sent m K c (2, 2) (left 9) (by decide) (by decide) (by rfl)) $$ [HO HT22]
  · isplitr; · iexact HR
    isplitr; · iexact Hlev
    isplitl [HO]; · iexact HO
    iexact HT22
  iintro ⟨HO, Hzs22, Hs2⟩
  ihave Hs2 := (sent_held m c (2, 2)) $$ Hs2
  iapply (wpc_ret c)
  iapply Hk
  isplitl [HO]; · iexact HO
  isplitl [Hzs12]; · iexact Hzs12
  isplitl [Hzr12]; · iexact Hzr12
  isplitl [Hr12]; · iexact Hr12
  isplitl [Hs1]; · iexact Hs1
  isplitl [Hzs22]; · iexact Hzs22
  isplitl [Hs2]; · iexact Hs2
  iexact Ho

end Cert.Exchange

end
-- ==== Proof.Body.lean ====
/-
# The kernel's body on one device

The parts run one after the other; the two scratch buffers are cut into their slots before and put together after. The
result buffer ends holding the three finished sums, one below the other.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-! ## A buffer cut into slots -/

omit [FloatOps F] in
/-- A whole buffer is its slots and the rest. -/
theorem cut {T : Type} [Fintype T] {ℓ : Loc nD τ sig} (S : T → Finset (Idx ℓ)) (hS : ∀ t t', t ≠ t' → Disjoint (S t) (S t')) :
    iprop(∃ f : Buf (Elt F) ℓ, ℓ ↦{fullShare} f)
      ⊢ (iprop((bigSep Finset.univ fun t => iprop(∃ f : Buf (Elt F) ℓ, ℓ ↦[S t]{fullShare} f))
          ∗ ∃ f : Buf (Elt F) ℓ, ℓ ↦[Finset.univ \ Finset.univ.biUnion S]{fullShare} f) : sProp 𝕄) := by
  iintro ⟨%f, H⟩
  ihave H := (pointsTo_split_subset (Finset.subset_univ (Finset.univ.biUnion S))).1 $$ H
  icases H with ⟨H, Hr⟩
  isplitl [H]
  · have h (t : T) : (ℓ ↦[S t]{fullShare} f : sProp 𝕄) ⊢ iprop(∃ f : Buf (Elt F) ℓ, ℓ ↦[S t]{fullShare} f) := by
      iintro H; iexists f; iexact H
    iapply ((Entails.of_eq (pointsTo_biUnion Finset.univ S fun t _ t' _ h => hS t t' h)).trans (bigSep_mono fun t _ => h t))
    iexact H
  · iexists f; iexact Hr

omit [FloatOps F] in
/-- The slots and the rest are the whole buffer. -/
theorem paste {T : Type} [Fintype T] [DecidableEq T] {ℓ : Loc nD τ sig} (S : T → Finset (Idx ℓ)) (hS : ∀ t t', t ≠ t' → Disjoint (S t) (S t')) :
    iprop((bigSep Finset.univ fun t => iprop(∃ f : Buf (Elt F) ℓ, ℓ ↦[S t]{fullShare} f))
          ∗ ∃ f : Buf (Elt F) ℓ, ℓ ↦[Finset.univ \ Finset.univ.biUnion S]{fullShare} f)
      ⊢ (iprop(∃ f : Buf (Elt F) ℓ, ℓ ↦{fullShare} f) : sProp 𝕄) := by
  iintro ⟨H, ⟨%f, Hr⟩⟩
  haveI : Nonempty (Buf (Elt F) ℓ) := ⟨f⟩
  ihave H := (BI.bigSep_exists_pi Finset.univ (fun (t : T) (f : Buf (Elt F) ℓ) => (ℓ ↦[S t]{fullShare} f : sProp 𝕄))) $$ H
  icases H with ⟨%fs, H⟩
  ihave H := (pointsTo_biUnion_join Finset.univ S fs f fun t _ t' _ h => hS t t' h) $$ H
  icases H with ⟨%g, -, H⟩
  iexists _
  iapply (pointsTo_join_subset (Finset.subset_univ (Finset.univ.biUnion S)))
  isplitl [H] <;> iassumption

/-- What the parts leave of the two scratch buffers. -/
def spare : sProp 𝕄 :=
  iprop((∃ f : Buf (Elt F) ((c : Thread nD τ).loc cc0_scratch0), ((c : Thread nD τ).loc cc0_scratch0) ↦[Finset.univ \ Finset.univ.biUnion sSet]{fullShare} f)
    ∗ ∃ f : Buf (Elt F) ((c : Thread nD τ).loc cc0_scratch1), ((c : Thread nD τ).loc cc0_scratch1) ↦[Finset.univ \ Finset.univ.biUnion rSet]{fullShare} f)

/-- Both scratch buffers, whatever they hold. -/
def scratch : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- One assertion for each exchange. -/
abbrev nine (Φ : I → sProp 𝕄) : sProp 𝕄 :=
  iprop(Φ (0, 0) ∗ Φ (0, 1) ∗ Φ (0, 2) ∗ Φ (1, 0) ∗ Φ (1, 1) ∗ Φ (1, 2) ∗ Φ (2, 0) ∗ Φ (2, 1) ∗ Φ (2, 2))
/-- One assertion for each part or pattern. -/
abbrev three (Φ : Fin 3 → sProp 𝕄) : sProp 𝕄 := iprop(Φ 0 ∗ Φ 1 ∗ Φ 2)

omit [FloatOps F] in
theorem bigSep_I (Φ : I → sProp 𝕄) : bigSep Finset.univ Φ = nine Φ :=
  bigSep_univ_eq_bigSepL [(0, 0), (0, 1), (0, 2), (1, 0), (1, 1), (1, 2), (2, 0), (2, 1), (2, 2)] (by decide) (by decide) Φ
omit [FloatOps F] in
theorem bigSep_3 (Φ : Fin 3 → sProp 𝕄) : bigSep Finset.univ Φ = three Φ :=
  bigSep_univ_eq_bigSepL [0, 1, 2] (by decide) (by decide) Φ

omit [FloatOps F] in
theorem scratch_cut : (scratch c : sProp 𝕄) ⊢ iprop(three (sSlot c) ∗ nine (rSlot c) ∗ spare c) := by
  unfold scratch spare
  iintro ⟨Hs, Hr⟩
  ihave Hs := (cut (F := F) (ℓ := (c : Thread nD τ).loc cc0_scratch0) sSet sSet_disjoint) $$ Hs
  ihave Hr := (cut (F := F) (ℓ := (c : Thread nD τ).loc cc0_scratch1) rSet rSet_disjoint) $$ Hr
  icases Hs with ⟨Hs, Hs'⟩
  icases Hr with ⟨Hr, Hr'⟩
  isplitl [Hs]
  · iapply (Entails.of_eq ((bigSep_congr fun p _ => (sSlot_eq (F := F) c p).symm).trans (bigSep_3 (sSlot c)))); iexact Hs
  isplitl [Hr]
  · iapply (Entails.of_eq ((bigSep_congr fun i _ => (rSlot_eq (F := F) c i).symm).trans (bigSep_I (rSlot c)))); iexact Hr
  isplitl [Hs'] <;> iassumption

omit [FloatOps F] in
theorem scratch_paste : (iprop(three (sSlot c) ∗ nine (rSlot c) ∗ spare c) : sProp 𝕄) ⊢ scratch c := by
  unfold scratch spare
  iintro ⟨Hs, Hr, Hs', Hr'⟩
  isplitl [Hs Hs']
  · iapply (paste (F := F) (ℓ := (c : Thread nD τ).loc cc0_scratch0) sSet sSet_disjoint)
    isplitl [Hs]
    · iapply (Entails.of_eq ((bigSep_congr fun p _ => (sSlot_eq (F := F) c p).symm).trans (bigSep_3 (sSlot c))).symm); iexact Hs
    iexact Hs'
  · iapply (paste (F := F) (ℓ := (c : Thread nD τ).loc cc0_scratch1) rSet rSet_disjoint)
    isplitl [Hr]
    · iapply (Entails.of_eq ((bigSep_congr fun i _ => (rSlot_eq (F := F) c i).symm).trans (bigSep_I (rSlot c))).symm); iexact Hr
    iexact Hr'

/-! ## The result -/

/-- The three finished sums, one below the other. -/
def outAt : (cc0_stg4_0 : Ref sig .tc).ty.Contents (Elt F) := fun x : S512x512.Idx =>
  if h₀ : (x 0).val < 160 then acc0 m 3 c (Shape.pair ⟨(x 0).val, h₀⟩ (x 1))
  else if h₁ : (x 0).val < 320 then acc1 m 3 c (Shape.pair ⟨(x 0).val - 160, by show (x 0).val - 160 < 160; omega⟩ (x 1))
  else acc2 m 3 c (Shape.pair ⟨(x 0).val - 320, by have h : (x 0).val < 512 := (x 0).isLt; show (x 0).val - 320 < 192; omega⟩ (x 1))

/-! ## The body -/

/-- What the body of device `c` starts from. -/
def given : sProp 𝕄 :=
  iprop(owe c dues ∗ three (fun j => dutyTok ER (barCell (fl j c)) 0 j) ∗ atPos ER (barCell c) 0 ∅ 0 ∗ cred (tallyAt (barCell c) () 3)
    ∗ nine (payTok c) ∗ nine (sndTok c) ∗ nine (rcvTok c) ∗ three (sSlot c) ∗ nine (rSlot c)
    ∗ stg c cc0_stg0_0 (xAt m c) ∗ stg c cc0_stg1_0 (gAt m c) ∗ stg c cc0_stg2_0 (uAt m c) ∗ stg c cc0_stg3_0 (dAt m c))

/-- What it leaves. -/
def leaves (f : (cc0_stg4_0 : Ref sig .tc).ty.Contents (Elt F)) : sProp 𝕄 :=
  iprop(owe c [] ∗ semVal (barCell c) 0 ∗ nine (fun i => semVal (sndCell c i) 0) ∗ nine (fun i => semVal (rcvCell c i) 0)
    ∗ three (sSlot c) ∗ nine (rSlot c)
    ∗ stg c cc0_stg0_0 (xAt m c) ∗ stg c cc0_stg1_0 (gAt m c) ∗ stg c cc0_stg2_0 (uAt m c) ∗ stg c cc0_stg3_0 (dAt m c)
    ∗ stg c cc0_stg4_0 (put o2 (put o1 (put o0 f (acc0 m 3 c)) (acc1 m 3 c)) (acc2 m 3 c)))

set_option maxHeartbeats 1600000 in
/-- The body, part by part. -/
theorem body_spec (f : (cc0_stg4_0 : Ref sig .tc).ty.Contents (Elt F)) {Q : PUnit → sProp 𝕄} :
    iprop(records m K ∗ levAts L lv ∗ given m c ∗ stg c cc0_stg4_0 f)
      ⊢ iprop((leaves m c f -∗ Q ⟨⟩) -∗ wpc c (cc0_body xM (Memref.isWhole_whole _) gM (Memref.isWhole_whole _) uM (Memref.isWhole_whole _) dM (Memref.isWhole_whole _) oM (Memref.isWhole_whole _) sM (Memref.isWhole_whole _) rM (Memref.isWhole_whole _) cc0_scratch2 cc0_scratch3) Q) := by
  rw [cc0_body_eq_skeleton]; unfold cc0_body_skel
  simp only [Prog.lift, Prog.bind_op, Prog.bind_ret, Prog.pure_eq_ret, wp_bind]
  unfold given leaves
  iintro ⟨#HR, #Hlev, ⟨HO, ⟨HB0, HB1, HB2⟩, HatB, HcB, ⟨HP00, HP01, HP02, HP10, HP11, HP12, HP20, HP21, HP22⟩, ⟨HS00, HS01, HS02, HS10, HS11, HS12, HS20, HS21, HS22⟩, ⟨HC00, HC01, HC02, HC10, HC11, HC12, HC20, HC21, HC22⟩, ⟨Hs0, Hs1, Hs2⟩, ⟨Hr00, Hr01, Hr02, Hr10, Hr11, Hr12, Hr20, Hr21, Hr22⟩, Hx, Hg, Hu, Hd⟩, Ho⟩ Hk
  iapply (part1_spec m K c) $$ [HO HB0 HB1 HB2 Hr00 Hr01 Hr02 Hr10 Hr11 Hr12 Hr20 Hr21 Hr22 HatB HcB Hx Hg Hu]
  · isplitr; · iexact HR
    isplitr; · iexact Hlev
    isplitl [HO]; · iexact HO
    isplitl [HB0]; · iexact HB0
    isplitl [HB1]; · iexact HB1
    isplitl [HB2]; · iexact HB2
    isplitl [Hr00]; · iexact Hr00
    isplitl [Hr01]; · iexact Hr01
    isplitl [Hr02]; · iexact Hr02
    isplitl [Hr10]; · iexact Hr10
    isplitl [Hr11]; · iexact Hr11
    isplitl [Hr12]; · iexact Hr12
    isplitl [Hr20]; · iexact Hr20
    isplitl [Hr21]; · iexact Hr21
    isplitl [Hr22]; · iexact Hr22
    isplitl [HatB]; · iexact HatB
    isplitl [HcB]; · iexact HcB
    isplitl [Hx]; · iexact Hx
    isplitl [Hg]; · iexact Hg
    iexact Hu
  iintro %v3 %v7 %v8 ⟨HO, HzB, HV00, HV01, HV02, HV10, HV11, HV12, HV20, HV21, HV22, Hx, Hg, Hu⟩
  dsimp only
  iapply (part2_spec m K c _ _) $$ [HO HP00 HS00 HV00 Hs0 Hs1 Hd]
  · isplitr; · iexact HR
    isplitr; · iexact Hlev
    isplitl [HO]; · iexact HO
    isplitl [HP00]; · iexact HP00
    isplitl [HS00]; · iexact HS00
    isplitl [HV00]; · iexact HV00
    isplitl [Hs0]; · iexact Hs0
    isplitl [Hs1]; · iexact Hs1
    iexact Hd
  iintro ⟨HO, HT00, Hs1, Hd⟩
  dsimp only
  iapply (part3_spec m K c _) $$ [HO HP10 HS10 HV10 HP20 HS20 HV20 Hs1 Hs2]
  · isplitr; · iexact HR
    isplitr; · iexact Hlev
    isplitl [HO]; · iexact HO
    isplitl [HP10]; · iexact HP10
    isplitl [HS10]; · iexact HS10
    isplitl [HV10]; · iexact HV10
    isplitl [HP20]; · iexact HP20
    isplitl [HS20]; · iexact HS20
    isplitl [HV20]; · iexact HV20
    isplitl [Hs1]; · iexact Hs1
    iexact Hs2
  iintro ⟨HO, HT10, HT20⟩
  iapply (part4_spec m K c _ _) $$ [HO HT00 HC00]
  · isplitr; · iexact HR
    isplitr; · iexact Hlev
    isplitl [HO]; · iexact HO
    isplitl [HT00]; · iexact HT00
    iexact HC00
  iintro ⟨HO, Hzs00, Hzr00, Hr00, Hs0⟩
  iapply (part5_spec m K c _) $$ [HO HP01 HS01 HV01 Hs0 HT10 HC10]
  · isplitr; · iexact HR
    isplitr; · iexact Hlev
    isplitl [HO]; · iexact HO
    isplitl [HP01]; · iexact HP01
    isplitl [HS01]; · iexact HS01
    isplitl [HV01]; · iexact HV01
    isplitl [Hs0]; · iexact Hs0
    isplitl [HT10]; · iexact HT10
    iexact HC10
  iintro ⟨HO, HT01, Hzs10, Hzr10, Hr10, Hs1⟩
  dsimp only
  iapply (part6_spec m K c _) $$ [HO Hs1 HP11 HS11 HV11 HT20]
  · isplitr; · iexact HR
    isplitr; · iexact Hlev
    isplitl [HO]; · iexact HO
    isplitl [Hs1]; · iexact Hs1
    isplitl [HP11]; · iexact HP11
    isplitl [HS11]; · iexact HS11
    isplitl [HV11]; · iexact HV11
    iexact HT20
  iintro ⟨HO, HT11, Hzs20, Hs2⟩
  iapply (part7_spec m K c _) $$ [HO HC20 Hs2 HP21 HS21 HV21]
  · isplitr; · iexact HR
    isplitr; · iexact Hlev
    isplitl [HO]; · iexact HO
    isplitl [HC20]; · iexact HC20
    isplitl [Hs2]; · iexact Hs2
    isplitl [HP21]; · iexact HP21
    isplitl [HS21]; · iexact HS21
    iexact HV21
  iintro ⟨HO, Hzr20, Hr20, HT21⟩
  iapply (part8_spec m K c _ _) $$ [HO HT01 HC01]
  · isplitr; · iexact HR
    isplitr; · iexact Hlev
    isplitl [HO]; · iexact HO
    isplitl [HT01]; · iexact HT01
    iexact HC01
  iintro ⟨HO, Hzs01, Hzr01, Hr01, Hs0⟩
  iapply (part9_spec m K c _) $$ [HO HP02 HS02 HV02 Hs0 HT11 HC11]
  · isplitr; · iexact HR
    isplitr; · iexact Hlev
    isplitl [HO]; · iexact HO
    isplitl [HP02]; · iexact HP02
    isplitl [HS02]; · iexact HS02
    isplitl [HV02]; · iexact HV02
    isplitl [Hs0]; · iexact Hs0
    isplitl [HT11]; · iexact HT11
    iexact HC11
  iintro ⟨HO, HT02, Hzs11, Hzr11, Hr11, Hs1⟩
  iapply (part10_spec m K c _) $$ [HO Hs1 HP12 HS12 HV12 HT21]
  · isplitr; · iexact HR
    isplitr; · iexact Hlev
    isplitl [HO]; · iexact HO
    isplitl [Hs1]; · iexact Hs1
    isplitl [HP12]; · iexact HP12
    isplitl [HS12]; · iexact HS12
    isplitl [HV12]; · iexact HV12
    iexact HT21
  iintro ⟨HO, HT12, Hzs21, Hs2⟩
  dsimp only
  iapply (part11_spec m K c _ _ _) $$ [HO HC21 Hs2 HP22 HS22 HV22]
  · isplitr; · iexact HR
    isplitr; · iexact Hlev
    isplitl [HO]; · iexact HO
    isplitl [HC21]; · iexact HC21
    isplitl [Hs2]; · iexact Hs2
    isplitl [HP22]; · iexact HP22
    isplitl [HS22]; · iexact HS22
    iexact HV22
  iintro ⟨HO, Hzr21, Hr21, HT22⟩
  iapply (part12_spec m K c _ _) $$ [HO HT02 HC02 Ho]
  · isplitr; · iexact HR
    isplitr; · iexact Hlev
    isplitl [HO]; · iexact HO
    isplitl [HT02]; · iexact HT02
    isplitl [HC02]; · iexact HC02
    iexact Ho
  iintro ⟨HO, Hzs02, Hzr02, Hr02, Hs0, Ho⟩
  iapply (part13_spec m K c _ _) $$ [HO HT12 HC12 HT22 Ho]
  · isplitr; · iexact HR
    isplitr; · iexact Hlev
    isplitl [HO]; · iexact HO
    isplitl [HT12]; · iexact HT12
    isplitl [HC12]; · iexact HC12
    isplitl [HT22]; · iexact HT22
    iexact Ho
  iintro ⟨HO, Hzs12, Hzr12, Hr12, Hs1, Hzs22, Hs2, Ho⟩
  iapply (wp_rcv m K c (2, 2) (left 9) (by decide) (by decide) (by rfl)) $$ [HO HC22]
  · isplitr; · iexact HR
    isplitr; · iexact Hlev
    isplitl [HO]; · iexact HO
    iexact HC22
  iintro ⟨HO, Hzr22, Hr22⟩
  ihave Hr22 := (recvPay_22 m c) $$ Hr22
  iapply (wp_take c (M := rM) shapeCasts_S1x1x192x512_S192x512) $$ Hr22
  iintro %w %hw Hr22
  ihave Hr22 := (read_22 c) $$ Hr22
  have e : k0_pay1 (acc2 m 2 c) w = acc2 m 3 c := acc2_step m hw
  rw [e]
  iapply (wp_put c) $$ Ho; iintro Ho
  iapply (wpc_ret c)
  iapply Hk
  isplitl [HO]; · iexact HO
  isplitl [HzB]; · iexact HzB
  isplitl [Hzs00 Hzs01 Hzs02 Hzs10 Hzs11 Hzs12 Hzs20 Hzs21 Hzs22]
  · isplitl [Hzs00]; · iexact Hzs00
    isplitl [Hzs01]; · iexact Hzs01
    isplitl [Hzs02]; · iexact Hzs02
    isplitl [Hzs10]; · iexact Hzs10
    isplitl [Hzs11]; · iexact Hzs11
    isplitl [Hzs12]; · iexact Hzs12
    isplitl [Hzs20]; · iexact Hzs20
    isplitl [Hzs21]; · iexact Hzs21
    iexact Hzs22
  isplitl [Hzr00 Hzr01 Hzr02 Hzr10 Hzr11 Hzr12 Hzr20 Hzr21 Hzr22]
  · isplitl [Hzr00]; · iexact Hzr00
    isplitl [Hzr01]; · iexact Hzr01
    isplitl [Hzr02]; · iexact Hzr02
    isplitl [Hzr10]; · iexact Hzr10
    isplitl [Hzr11]; · iexact Hzr11
    isplitl [Hzr12]; · iexact Hzr12
    isplitl [Hzr20]; · iexact Hzr20
    isplitl [Hzr21]; · iexact Hzr21
    iexact Hzr22
  isplitl [Hs0 Hs1 Hs2]
  · isplitl [Hs0]; · iexact Hs0
    isplitl [Hs1]; · iexact Hs1
    iexact Hs2
  isplitl [Hr00 Hr01 Hr02 Hr10 Hr11 Hr12 Hr20 Hr21 Hr22]
  · isplitl [Hr00]; · iexact Hr00
    isplitl [Hr01]; · iexact Hr01
    isplitl [Hr02]; · iexact Hr02
    isplitl [Hr10]; · iexact Hr10
    isplitl [Hr11]; · iexact Hr11
    isplitl [Hr12]; · iexact Hr12
    isplitl [Hr20]; · iexact Hr20
    isplitl [Hr21]; · iexact Hr21
    iexact Hr22
  isplitl [Hx]; · iexact Hx
  isplitl [Hg]; · iexact Hg
  isplitl [Hu]; · iexact Hu
  isplitl [Hd]; · iexact Hd
  iexact Ho

end Cert.Exchange

end
-- ==== Proof.Launch.lean ====
/-
# The launch: every device's body put together

The launch hands every device its share of the protocol: the barrier tokens and the receive tokens go to the partner
that pays them, the positions stay. What a device may wait for is counted over all devices. The result is one theorem
about all runs of the program.
-/
module

public import proofs.«01_k».proof.Proof.Body
public import Idealize.ShloMosaic.Lib.Pipeline.CollectiveSegs
public import proofs.«01_k».proof.Proof.Gen.KernelIdeal.Points
public import proofs.«01_k».proof.Proof.Gen.KernelIdeal.Frame

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The three stores together -/

/-- One store of whole rows, read at an element. -/
theorem put_at {o n : ℕ} (inb : ∀ a, (![o, 0] : Fin 2 → ℕ) a + (![n, 512] : Fin 2 → ℕ) a ≤ S512x512.size a)
    (f : (cc0_stg4_0 : Ref sig .tc).ty.Contents (Elt F)) (w : (⟨2, ![n, 512]⟩ : Shape).Idx → F .f32) (x : S512x512.Idx) :
    put (Rect.unit (s := S512x512) ![o, 0] ![n, 512] inb) f w x
      = if h : o ≤ (x 0).val ∧ (x 0).val < o + n then w (Shape.pair ⟨(x 0).val - o, by show (x 0).val - o < n; omega⟩ (x 1)) else f x := by
  unfold put
  refine (congrFun (View.write_whole_slice_unit (cc0_stg4_0 : Ref sig .tc) ![o, 0] ![n, 512] inb f w) x).trans ?_
  unfold updateSlice
  by_cases h : o ≤ (x 0).val ∧ (x 0).val < o + n
  · rw [dif_pos h]
    refine (dif_pos (show ∀ a : Fin 2, (![o, 0] : Fin 2 → ℕ) a ≤ (x a).val ∧ (x a).val < (![o, 0] : Fin 2 → ℕ) a + (![n, 512] : Fin 2 → ℕ) a from fun a => by
      fin_cases a
      · exact h
      · exact ⟨Nat.zero_le _, lt_of_lt_of_eq (x 1).isLt (Nat.zero_add 512).symm⟩)).trans ?_
    refine congrArg w (funext fun a => ?_)
    fin_cases a <;> rfl
  · rw [dif_neg h]
    exact dif_neg fun h' => h (h' (0 : Fin 2))

/-- The three stores fill the whole result. -/
theorem out_eq (f : (cc0_stg4_0 : Ref sig .tc).ty.Contents (Elt F)) :
    put o2 (put o1 (put o0 f (acc0 m 3 c)) (acc1 m 3 c)) (acc2 m 3 c) = outAt m c := by
  funext x
  have hx : (x (0 : Fin 2)).val < 512 := (x (0 : Fin 2)).isLt
  refine (put_at (n := 192) _ _ _ x).trans ?_
  unfold outAt
  by_cases h₂ : 320 ≤ (x (0 : Fin 2)).val
  · rw [dif_pos ⟨h₂, by omega⟩, dif_neg (by omega), dif_neg (by omega)]
  rw [dif_neg (by omega)]
  refine (put_at (n := 160) _ _ _ x).trans ?_
  by_cases h₁ : 160 ≤ (x (0 : Fin 2)).val
  · rw [dif_pos ⟨h₁, by omega⟩, dif_neg (by omega), dif_pos (by omega)]
  rw [dif_neg (by omega)]
  refine (put_at (n := 160) _ _ _ x).trans ?_
  rw [dif_pos ⟨Nat.zero_le _, by omega⟩, dif_pos (by omega)]
  rfl

/-! ## What the body starts from and leaves, in the launch's form -/

/-- The protocol's share of device `c`, but for the records. -/
def linear : sProp 𝕄 :=
  iprop(three (fun j => dutyTok ER (barCell (fl j c)) 0 j) ∗ atPos ER (barCell c) 0 ∅ 0 ∗ nine (payTok c) ∗ nine (sndTok c)
    ∗ nine fun i => atPos ER (rcvCell c i) 0 ∅ 0)

/-- The share with the records, at some names. -/
def G' : sProp 𝕄 := iprop(∃ K, records m K ∗ linear c)

/-- The credits device `c` starts with. -/
def creds : sProp 𝕄 := iprop(cred (tallyAt (barCell c) () 3) ∗ nine fun i => cred (tallyAt (rcvCell c i) () (N i.1)))

def start : sProp 𝕄 := iprop(G' m c ∗ creds c ∗ levAts L lv)

def Φ₀ : sProp 𝕄 := iprop(start m c ∗ scratch c)
def Φ₁ : sProp 𝕄 :=
  iprop(semVal (barCell c) 0 ∗ nine (fun i => semVal (sndCell c i) 0) ∗ nine (fun i => semVal (rcvCell c i) 0) ∗ scratch c)

/-- The proof data of the one region: the blocks staged and left, the resources before and after, the dues. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => gAt m c
    | ⟨2, _⟩ => uAt m c
    | ⟨3, _⟩ => dAt m c
    | ⟨4, _⟩ => outAt m c
  Φ t := match t with
    | ⟨0, _⟩ => Φ₀ m c
    | ⟨_ + 1, _⟩ => Φ₁ c
  q _ := fullShare
  owed t := match t with
    | ⟨0, _⟩ => tally c dues
    | ⟨_ + 1, _⟩ => 0

/-- A staging buffer as the pipeline states it. -/
abbrev stage (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stage_stg (b : Ref sig .tc) (X : b.ty.Contents (Elt F)) : (stage c b X : sProp 𝕄) ⊢ stg c b X := by
  iintro ⟨%f, %h, H⟩
  subst h
  iexact H
omit [FloatOps F] in
theorem stg_stage (b : Ref sig .tc) (X : b.ty.Contents (Elt F)) : (stg c b X : sProp 𝕄) ⊢ stage c b X := by
  iintro H
  iexists X
  isplitr; · (ipureintro; rfl)
  iexact H

theorem before_x (d) : (dats m ρ 0 c).before (0 : Fin 5) t0_0 d = xAt m c := by unfold Dat.before; rw [if_pos (fetch0_0 t0_0)]; rfl
theorem before_g (d) : (dats m ρ 0 c).before (1 : Fin 5) t0_0 d = gAt m c := by unfold Dat.before; rw [if_pos (fetch0_1 t0_0)]; rfl
theorem before_u (d) : (dats m ρ 0 c).before (2 : Fin 5) t0_0 d = uAt m c := by unfold Dat.before; rw [if_pos (fetch0_2 t0_0)]; rfl
theorem before_d (d) : (dats m ρ 0 c).before (3 : Fin 5) t0_0 d = dAt m c := by unfold Dat.before; rw [if_pos (fetch0_3 t0_0)]; rfl

def bodyPre : sProp 𝕄 :=
  iprop(Φ₀ m c ∗ (dats m ρ 0 c).owesAt () t0_0.castSucc
    ∗ (∃ d, stage c cc0_stg0_0 ((dats m ρ 0 c).before (0 : Fin 5) t0_0 d))
    ∗ (∃ d, stage c cc0_stg1_0 ((dats m ρ 0 c).before (1 : Fin 5) t0_0 d))
    ∗ (∃ d, stage c cc0_stg2_0 ((dats m ρ 0 c).before (2 : Fin 5) t0_0 d))
    ∗ (∃ d, stage c cc0_stg3_0 ((dats m ρ 0 c).before (3 : Fin 5) t0_0 d))
    ∗ (∃ d, stage c cc0_stg4_0 ((dats m ρ 0 c).before (4 : Fin 5) t0_0 d)))

def bodyPost : sProp 𝕄 :=
  iprop(Φ₁ c ∗ (dats m ρ 0 c).owesAt () t0_0.succ ∗ stage c cc0_stg0_0 (xAt m c) ∗ stage c cc0_stg1_0 (gAt m c)
    ∗ stage c cc0_stg2_0 (uAt m c) ∗ stage c cc0_stg3_0 (dAt m c) ∗ stage c cc0_stg4_0 (outAt m c))

/-- What the launch hands over is what the body starts from. -/
theorem enter : bodyPre m ρ c ⊢ iprop((∃ K, records m K) ∗ levAts L lv ∗ given m c ∗ spare c ∗ ∃ f, stg c cc0_stg4_0 f) := by
  unfold bodyPre Φ₀ start G' creds linear given Dat.owesAt Pipeline.owesWithin
  iintro ⟨⟨⟨⟨%K, HR, HB, HatB, HP, HS, ⟨Ha00, Ha01, Ha02, Ha10, Ha11, Ha12, Ha20, Ha21, Ha22⟩⟩,
      ⟨HcB, ⟨Hc00, Hc01, Hc02, Hc10, Hc11, Hc12, Hc20, Hc21, Hc22⟩⟩, Hlev⟩, Hscr⟩, ⟨%W, %hW, HO⟩, ⟨%d0, Hx⟩, ⟨%d1, Hg⟩, ⟨%d2, Hu⟩, ⟨%d3, Hd⟩, ⟨%d4, Ho⟩⟩
  ihave Hscr := (scratch_cut (F := F) c) $$ Hscr
  icases Hscr with ⟨Hs, Hr, Hsp⟩
  ihave Hx := (stage_stg c cc0_stg0_0 _) $$ Hx
  ihave Hg := (stage_stg c cc0_stg1_0 _) $$ Hg
  ihave Hu := (stage_stg c cc0_stg2_0 _) $$ Hu
  ihave Hd := (stage_stg c cc0_stg3_0 _) $$ Hd
  ihave Ho := (stage_stg c cc0_stg4_0 _) $$ Ho
  rw [before_x, before_g, before_u, before_d]
  isplitl [HR]; · iexists K; iexact HR
  isplitl [Hlev]; · iexact Hlev
  isplitr [Hsp Ho]
  · isplitl [HO]; · unfold owe; iexists W; iexact HO
    isplitl [HB]; · iexact HB
    isplitl [HatB]; · iexact HatB
    isplitl [HcB]; · iexact HcB
    isplitl [HP]; · iexact HP
    isplitl [HS]; · iexact HS
    isplitl [Ha00 Ha01 Ha02 Ha10 Ha11 Ha12 Ha20 Ha21 Ha22 Hc00 Hc01 Hc02 Hc10 Hc11 Hc12 Hc20 Hc21 Hc22]
    · unfold nine rcvTok
      isplitl [Ha00 Hc00]; · isplitl [Ha00] <;> iassumption
      isplitl [Ha01 Hc01]; · isplitl [Ha01] <;> iassumption
      isplitl [Ha02 Hc02]; · isplitl [Ha02] <;> iassumption
      isplitl [Ha10 Hc10]; · isplitl [Ha10] <;> iassumption
      isplitl [Ha11 Hc11]; · isplitl [Ha11] <;> iassumption
      isplitl [Ha12 Hc12]; · isplitl [Ha12] <;> iassumption
      isplitl [Ha20 Hc20]; · isplitl [Ha20] <;> iassumption
      isplitl [Ha21 Hc21]; · isplitl [Ha21] <;> iassumption
      isplitl [Ha22] <;> iassumption
    isplitl [Hs]; · iexact Hs
    isplitl [Hr]; · iexact Hr
    isplitl [Hx]; · iexact Hx
    isplitl [Hg]; · iexact Hg
    isplitl [Hu]; · iexact Hu
    iexact Hd
  isplitl [Hsp]; · iexact Hsp
  iexists _; iexact Ho

/-- What the body leaves is what the launch takes back. -/
theorem leave (f : (cc0_stg4_0 : Ref sig .tc).ty.Contents (Elt F)) : iprop(leaves m c f ∗ spare c) ⊢ bodyPost m ρ c := by
  unfold leaves bodyPost Φ₁ Dat.owesAt Pipeline.owesWithin owe
  rw [out_eq]
  iintro ⟨⟨⟨%W, HO⟩, HzB, Hzs, Hzr, Hs, Hr, Hx, Hg, Hu, Hd, Ho⟩, Hsp⟩
  ihave Hscr := (scratch_paste (F := F) c) $$ [Hs Hr Hsp]
  · isplitl [Hs]; · iexact Hs
    isplitl [Hr] <;> iassumption
  isplitl [HzB Hzs Hzr Hscr]
  · isplitl [HzB]; · iexact HzB
    isplitl [Hzs]; · iexact Hzs
    isplitl [Hzr] <;> iassumption
  isplitl [HO]
  · iexists W
    isplitr; · ipureintro; exact fun _ _ => Or.inl trivial
    iexact HO
  isplitl [Hx]; · iapply (stg_stage c cc0_stg0_0 _); iexact Hx
  isplitl [Hg]; · iapply (stg_stage c cc0_stg1_0 _); iexact Hg
  isplitl [Hu]; · iapply (stg_stage c cc0_stg2_0 _); iexact Hu
  isplitl [Hd]; · iapply (stg_stage c cc0_stg3_0 _); iexact Hd
  iapply (stg_stage c cc0_stg4_0 _); iexact Ho

/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body xM (Memref.isWhole_whole _) gM (Memref.isWhole_whole _) uM (Memref.isWhole_whole _) dM (Memref.isWhole_whole _)
    oM (Memref.isWhole_whole _) sM (Memref.isWhole_whole _) rM (Memref.isWhole_whole _) cc0_scratch2 cc0_scratch3) (fun _ => bodyPost m ρ c)
  iintro H
  ihave H := (enter m ρ c) $$ H
  icases H with ⟨⟨%K, HR⟩, Hlev, Hgiv, Hsp, ⟨%f, Ho⟩⟩
  iapply (body_spec m K c f) $$ [HR Hlev Hgiv Ho]
  · isplitl [HR]; · iexact HR
    isplitl [Hlev]; · iexact Hlev
    isplitl [Hgiv] <;> iassumption
  iintro H
  iapply (leave m ρ c f)
  isplitl [H] <;> iassumption

/-! ## The semaphores and the tokens dealt -/

/-- The kernel's own semaphores: the send and the receive semaphores. -/
abbrev osem : I ⊕ I → SemLoc sig := fun k => csem (.inr k)

theorem ownSemFacts : Pipeline.OwnSemFacts cfg0.spec osem := by decide +kernel

theorem share_eq (w : Fin cfg0.W) : (dats m ρ 0 c).share w = fullShare := by unfold Dat.share; split <;> rfl

def cells : Finset (GSem nD τ sig) := Finset.univ.map ⟨kcell, kcell_injective⟩

/-- A device's own cells' duties: three on the barrier, one on each send and receive cell. -/
abbrev dutyOf (x : Dev nD × (Fin 3 ⊕ (I ⊕ I))) : GSem nD τ sig × ℕ × Fin 3 := match x.2 with
  | .inl j => (barCell x.1, 0, j)
  | .inr k => (kcell (x.1, .inr k), 0, 0)
theorem dutyOf_injective : Function.Injective dutyOf := by
  rintro ⟨a, k⟩ ⟨b, l⟩ h
  rcases k with j | k <;> rcases l with j' | l
  · have h1 := kcell_injective (congrArg (fun x => x.1) h)
    have h2 : j = j' := congrArg (fun x : GSem nD τ sig × ℕ × Fin 3 => x.2.2) h
    exact Prod.ext (Prod.mk.inj h1).1 (congrArg Sum.inl h2)
  · have h1 := kcell_injective (congrArg (fun x => x.1) h)
    cases (Prod.mk.inj h1).2
  · have h1 := kcell_injective (congrArg (fun x => x.1) h)
    cases (Prod.mk.inj h1).2
  · have h1 := kcell_injective (congrArg (fun x => x.1) h)
    exact Prod.ext (Prod.mk.inj h1).1 (congrArg Sum.inr (Sum.inr.inj (Prod.mk.inj h1).2))
def duties : Finset (GSem nD τ sig × ℕ × Fin 3) := Finset.univ.map ⟨dutyOf, dutyOf_injective⟩

def u₀ : UU := (initOf (Pipeline.cells cfgs cellOf_inj) (Pipeline.launchToks cfgs cellOf_inj), initOf cells duties)

/-- The duty tokens of device `c`'s own cells. -/
def toks : sProp 𝕄 :=
  iprop((bigSep Finset.univ fun j : Fin 3 => dutyTok ER (barCell c) 0 j)
    ∗ (bigSep Finset.univ fun i : I => dutyTok ER (sndCell c i) 0 0) ∗ (bigSep Finset.univ fun i : I => dutyTok ER (rcvCell c i) 0 0))

/-- What the launch element deals device `c`. -/
def G : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks c)

omit [FloatOps F] in
/-- One assertion for each cell of a device. -/
theorem bigSep_Cell (Φ : Cell → sProp 𝕄) : bigSep Finset.univ Φ
    = iprop(Φ (.inl ()) ∗ (bigSep Finset.univ fun i : I => Φ (.inr (.inl i))) ∗ bigSep Finset.univ fun i : I => Φ (.inr (.inr i))) := by
  rw [bigSep_univ_sum, bigSep_univ_sum]
  exact congrArg (fun X => iprop(X ∗ (bigSep Finset.univ fun i : I => Φ (.inr (.inl i))) ∗ bigSep Finset.univ fun i : I => Φ (.inr (.inr i))))
    (bigSep_univ_eq_bigSepL [()] (by decide) (by decide) fun u => Φ (.inl u))

theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (Rd m) cells duties) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq : (Pipeline.ownSems0 (Ix := Unit) (Name := ℕ) (U := UU) (Lvl := ℕ) (Val := Elt F) (τ := τ) osem c : sProp 𝕄)
    = iprop((bigSep Finset.univ fun i : I => semVal (sndCell c i) 0) ∗ bigSep Finset.univ fun i : I => semVal (rcvCell c i) 0) := by
  unfold Pipeline.ownSems0; rw [bigSep_univ_sum]; rfl
omit [FloatOps F] in
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_Cell]
  iintro ⟨⟨HS, HV⟩, HB⟩
  isplitl [HB]; · iexact HB
  isplitl [HS] <;> iassumption

/-- Device `c`'s cells get their invariants. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duty tokens device `c` pays with. -/
def payToks : sProp 𝕄 :=
  iprop((bigSep Finset.univ fun j : Fin 3 => dutyTok ER (barCell (fl j c)) 0 j)
    ∗ (bigSep Finset.univ fun i : I => dutyTok ER (sndCell c i) 0 0) ∗ (bigSep Finset.univ fun i : I => dutyTok ER (rcvCell (peer i c) i) 0 0))

omit [FloatOps F] in
/-- A family of assertions on devices, one for each index, dealt to the partners. -/
theorem deal {T : Type} [Fintype T] (e : T → Dev nD ≃ Dev nD) (Φ : Dev nD → T → sProp 𝕄) :
    (bigSep Finset.univ fun c : Dev nD => bigSep Finset.univ fun t : T => Φ c t)
      = bigSep Finset.univ fun c : Dev nD => bigSep Finset.univ fun t : T => Φ (e t c) t :=
  (bigSep_univ_comm _).trans ((bigSep_congr fun t _ => bigSep_univ_equiv (e t) fun c => Φ c t).trans (bigSep_univ_comm fun t c => Φ (e t c) t))

omit [FloatOps F] in
theorem toks_dealt : (bigSep Finset.univ fun c : Dev nD => (toks c : sProp 𝕄)) ⊢ bigSep Finset.univ fun c : Dev nD => payToks c := by
  unfold toks payToks
  rw [bigSep_sep', bigSep_sep', bigSep_sep', bigSep_sep', deal flE (fun c j => (dutyTok ER (barCell c) 0 j : sProp 𝕄)),
    deal (fun i : I => flE (i.1 + i.2)) (fun c i => (dutyTok ER (rcvCell c i) 0 0 : sProp 𝕄))]
  iintro ⟨H1, H2, H3⟩
  isplitl [H1]; · iexact H1
  isplitl [H2]; · iexact H2
  iexact H3

omit [FloatOps F] in
/-- A device's positions and the tokens it pays with are its share. -/
theorem linear_intro : iprop((bigSep Finset.univ fun k : Cell => atPos ER (kcell (c, k)) 0 ∅ 0) ∗ payToks c) ⊢ (linear c : sProp 𝕄) := by
  unfold payToks linear payTok sndTok
  rw [bigSep_Cell, bigSep_I, bigSep_I, bigSep_I, bigSep_I, bigSep_3]
  iintro ⟨⟨HatB, HatS, HatR⟩, HB, ⟨Ha00, Ha01, Ha02, Ha10, Ha11, Ha12, Ha20, Ha21, Ha22⟩, ⟨Hc00, Hc01, Hc02, Hc10, Hc11, Hc12, Hc20, Hc21, Hc22⟩⟩
  isplitl [HB]; · iexact HB
  isplitl [HatB]; · iexact HatB
  isplitr [HatS HatR]
  · isplitl [Ha00 Hc00]; · isplitl [Ha00] <;> iassumption
    isplitl [Ha01 Hc01]; · isplitl [Ha01] <;> iassumption
    isplitl [Ha02 Hc02]; · isplitl [Ha02] <;> iassumption
    isplitl [Ha10 Hc10]; · isplitl [Ha10] <;> iassumption
    isplitl [Ha11 Hc11]; · isplitl [Ha11] <;> iassumption
    isplitl [Ha12 Hc12]; · isplitl [Ha12] <;> iassumption
    isplitl [Ha20 Hc20]; · isplitl [Ha20] <;> iassumption
    isplitl [Ha21 Hc21]; · isplitl [Ha21] <;> iassumption
    isplitl [Ha22] <;> iassumption
  isplitl [HatS]; · iexact HatS
  iexact HatR

omit [FloatOps F] in
theorem with_persistent {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Dev nD × Cell → ℕ) :
    iprop(records m K ∗ ((bigSep Finset.univ fun k : Cell => atPos ER (kcell (c, k)) 0 ∅ 0) ∗ payToks c)) ⊢ G' m c := by
  unfold G'
  iintro ⟨HR, H⟩
  iexists K
  isplitl [HR]; · iexact HR
  iapply (linear_intro (F := F) c); iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_dealt (F := F)) $$ Htok
  iapply (with_persistent (R := records m K) fun c _ => share_intro m c K)
  isplitr
  · unfold records; isplitl; · iexact HI
    iexact HR
  · rw [bigSep_sep']
    isplitl [Hat] <;> iassumption

/-- All the devices' semaphores and tokens together, with the invariants made. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits counted -/

/-- Where a due goes, and which of the cells there it pays. -/
def dto : Due → Dev nD → Dev nD
  | .inl j => fl j
  | .inr i => peer i
def dcellKind : Due → Cell
  | .inl _ => .inl ()
  | .inr i => .inr (.inr i)
theorem dcell_eq (d : Dev nD) (e : Due) : dcell d e = kcell (dto e d, dcellKind e) := by rcases e with j | i <;> rfl
theorem dto_dto (e : Due) (d : Dev nD) : dto e (dto e d) = d := by rcases e with j | i <;> exact fl_fl _ _

/-- One due of every device, counted at one cell. -/
theorem due_sum (k : Cell) (e : Due) :
    (∑ d : Dev nD, tallyAt (dcell d e) () (damt e) (kcell (c, k)) () : ℕ) = if k = dcellKind e then damt e else 0 := by
  have h (d : Dev nD) : (tallyAt (dcell d e) () (damt e) (kcell (c, k)) () : ℕ) = if d = dto e c then (if k = dcellKind e then damt e else 0) else 0 := by
    rw [tallyAt_apply, dcell_eq]
    by_cases hd : d = dto e c
    · subst hd
      rw [if_pos rfl, dto_dto]
      by_cases hk : k = dcellKind e
      · rw [if_pos ⟨by rw [hk], rfl⟩, if_pos hk]
      · rw [if_neg fun h => hk (Prod.mk.inj (kcell_injective h.1)).2, if_neg hk]
    · rw [if_neg hd, if_neg fun h => hd (by rw [(Prod.mk.inj (kcell_injective h.1)).1, dto_dto])]
  rw [Finset.sum_congr rfl fun d _ => h d, Finset.sum_ite_eq' Finset.univ (dto e c) fun _ => _, if_pos (Finset.mem_univ _)]

/-- A list of dues of every device, counted at one cell. -/
theorem tally_sum (k : Cell) (l : List Due) :
    (∑ d : Dev nD, tally d l (kcell (c, k)) () : ℕ) = (l.map fun e => if k = dcellKind e then damt e else 0).sum := by
  induction l with
  | nil => exact Finset.sum_eq_zero fun d _ => rfl
  | cons e l ih =>
    rw [List.map_cons, List.sum_cons, ← due_sum c k e, ← ih, ← Finset.sum_add_distrib]
    exact Finset.sum_congr rfl fun d _ => Nat.add_comm _ _

theorem launch_cell (k : Cell) (n : ℕ) (h : (dues.map fun e => if k = dcellKind e then damt e else 0).sum = n) :
    tallyOn (kcell (c, k)) (launchCredit (Pipeline.owing fun d => tally d dues) 0 (kcell (c, k))) = (tallyAt (kcell (c, k)) () n : CellTallies nD τ sig Unit) := by
  unfold tallyAt; refine congrArg _ (Finsupp.ext fun u => ?_); cases u
  rw [Pipeline.launchCredit_owing, Finsupp.single_eq_same]
  exact (tally_sum c k dues).trans h

/-- The cells a device waits on for others. -/
def waited : Unit ⊕ I → SemLoc sig
  | .inl _ => csem (.inl ())
  | .inr i => csem (.inr (.inr i))
theorem waited_injective : Function.Injective waited := by decide +kernel

theorem count_rcv (i : I) : (dues.map fun e => if (.inr (.inr i) : Cell) = dcellKind e then damt e else 0).sum = N i.1 := by
  revert i
  simp only [dues, sends, List.map_cons, List.map_nil, dcellKind, damt]
  rintro ⟨p, r⟩
  fin_cases p <;> fin_cases r <;> simp

theorem creds_intro : (Pipeline.launchCred (fun d => tally d dues) c : sProp 𝕄) ⊢ creds c := by
  unfold Pipeline.launchCred creds
  refine BIBase.Entails.trans (bigSep_subset (Finset.subset_univ (Finset.univ.map ⟨waited, waited_injective⟩))) ?_
  rw [bigSep_map, bigSep_univ_sum]
  refine Entails.of_eq (congrArg₂ (fun X Y => iprop(X ∗ Y)) ?_ ?_)
  · refine (bigSep_univ_eq_bigSepL [()] (by decide) (by decide) _).trans ?_
    exact congrArg cred (launch_cell c (.inl ()) 3 (by decide))
  · refine (bigSep_I _).trans ?_
    exact congrArg nine (funext fun i => congrArg cred (launch_cell c (.inr (.inr i)) (N i.1) (count_rcv i)))

/-! ## The launch theorem's side conditions -/

theorem start_intro :
    iprop(Pipeline.unscopedRestP Pipeline.Prefetch.none cfg0.spec c (fun b => m ((c : Thread nD τ).loc b)) ∗ levAts L lv
        ∗ Pipeline.launchCred (fun d => tally d dues) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_I, bigSep_I]
  unfold Φ₁ scratch
  iintro ⟨HB, HS, HV, Hr⟩
  isplitl [HB]; · iexact HB
  isplitl [HS HV]
  · isplitl [HS] <;> iassumption
  iexact Hr

theorem stage_level (w : Fin 5) (s : Fin (spec0 w).nbuf) : lv ((c : Thread nD τ), .dma ((spec0 w).sem s)) () = 0 := by
  dsimp only [lv]
  have h : ∀ (w : Fin 5) (s : Fin (spec0 w).nbuf) (k : Cell), csem k ≠ .dma ((spec0 w).sem s) := by decide +kernel
  split
  · next hk => exact absurd (decode_eq hk) (h w s _)
  · next hk => exact absurd (decode_eq hk) (h w s _)
  · rfl

theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ dues 0 (le_of_eq (stage_level c w s)) (by decide)
    · exact mayWait c _ [] 0 (le_of_eq (stage_level c w s)) (by decide)

/-! ## The run -/

def finalA (c : Dev nD) (w : Fin cfg0.W) : Buf (Elt F) ((cfg0.win w).arr.view.loc (c : Thread nD τ)) := (dats m ρ 0 c).arrAt w cfg0.N

/-- Every run from a memory with zero counters ends, with every array at the computed contents and every counter zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => tally d dues) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Value.lean ====
/-
# The value: what all devices end with is the one product

Over the extended reals a change of format is the identity and sums may be taken in any order. Recursive doubling over
three partner patterns meets every device once, so each device ends with the sum of all eight partial products. The
partial product of a device sums over its own 1024 hidden columns; the eight together sum over all 8192, which is the
reference's last product.
-/
module

public import proofs.«01_k».proof.Proof.Launch
public import proofs.«01_k».proof.Proof.Gen.ReferenceIdeal.Run
public import Idealize.ShloMosaic.Lib.Pipeline.Value
public import Idealize.ShloMosaic.Lib.MatmulPlain
public import Idealize.ShloMosaic.Lib.StackMember
public import Idealize.ShloMosaic.Lib.Layout

@[expose] public section

set_option maxRecDepth 16384

noncomputable section

namespace Cert.Exchange

open Idealize.ShloMosaic Idealize.ShloMosaic.TcCoe Idealize.ShloMosaic.ValueIdx

/-! ## The mathematics -/

/-- One hidden activation: the gate times the swish of the other product. -/
def act (g u : EReal) : EReal := g * (u * Ideal.logistic u)

theorem exp_pos_or (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- Dividing by one plus an exponential is multiplying by the logistic function. -/
theorem swish (u : EReal) : Ideal.div u (1 + Ideal.exp (-u)) = u * Ideal.logistic u := by
  have h : (1 : EReal) + Ideal.exp (-u) ≠ 0 := by
    have h0 : (0 : EReal) < 1 + Ideal.exp (-u) := lt_of_lt_of_le zero_lt_one (le_add_of_nonneg_right (exp_pos_or (-u)))
    exact ne_of_gt h0
  unfold Ideal.logistic Ideal.div
  rw [if_neg h, if_neg h, one_mul]

section Whole

variable (X : FVec Ideal ⟨2, ![512, 512]⟩ .bf16) (A B : FVec Ideal ⟨2, ![512, 8192]⟩ .bf16) (D : FVec Ideal ⟨2, ![8192, 512]⟩ .bf16)

/-- The contribution of hidden column `j` to the result at row `r` and column `q`. -/
def term (r q : Fin 512) (j : Fin 8192) : EReal :=
  act (∑ k : Fin 512, X (ix2 r k) * A (ix2 k j)) (∑ k : Fin 512, X (ix2 r k) * B (ix2 k j)) * D (ix2 j q)

/-- Hidden column `j` of device `c`, among all of them. -/
def col (c : Fin 8) (j : Fin 1024) : Fin 8192 := ⟨c.val * 1024 + j.val, by omega⟩

/-- The contribution of device `c`. -/
def part (r q : Fin 512) (c : Fin 8) : EReal := ∑ j : Fin 1024, term X A B D r q (col c j)

/-- The devices' contributions are all the contributions. -/
theorem sum_parts (r q : Fin 512) : ∑ c : Fin 8, part X A B D r q c = ∑ j : Fin 8192, term X A B D r q j := by
  have h := Equiv.sum_comp (finProdFinEquiv (m := 8) (n := 1024)) (term X A B D r q)
  refine Eq.trans ?_ h
  rw [Fintype.sum_prod_type]
  refine Finset.sum_congr rfl fun c _ => Finset.sum_congr rfl fun j _ => congrArg _ (Fin.ext ?_)
  show c.val * 1024 + j.val = j.val + 1024 * c.val
  omega

end Whole

/-! ## The reference -/

theorem one_bits : Ideal.ofBits .bf16 0x3F80#16 = 1 := by simp [Ideal.ofBits, Ideal.ieee, -EReal.coe_mul]; norm_num

section Reference

open Cert.ReferenceIdeal Cert.ReferenceIdeal.Gen

variable (X : FVec Ideal S512x512 .bf16) (A B : FVec Ideal S512x8192 .bf16) (D : FVec Ideal S8192x512 .bf16)

/-- The value the reference computes. -/
abbrev refOut : FVec Ideal S512x512 .f32 :=
  extf .f32 (truncf .bf16 (Host.dotGeneral dot_S512x8192_S8192x512_S512x512_1_0_0_1_n_n none (mulf (truncf .bf16 (Host.dotGeneral dot_S512x512_S512x8192_S512x8192_1_0_0_1_n_n none X A) bitsLt_bf16_f32)
    (Host.divf (truncf .bf16 (Host.dotGeneral dot_S512x512_S512x8192_S512x8192_1_0_0_1_n_n none X B) bitsLt_bf16_f32) (addf (broadcastInDim S512x8192 ![] bcast_S_S512x8192 (constant S_ .bf16 0x3F80#16))
      (Host.exp (Host.negf (truncf .bf16 (Host.dotGeneral dot_S512x512_S512x8192_S512x8192_1_0_0_1_n_n none X B) bitsLt_bf16_f32)))))) D) bitsLt_bf16_f32) bitsLt_bf16_f32

theorem wide_plain : dot_S512x512_S512x8192_S512x8192_1_0_0_1_n_n = DotDims.plain 512 512 8192 := rfl
theorem back_plain : dot_S512x8192_S8192x512_S512x512_1_0_0_1_n_n = DotDims.plain 512 8192 512 := rfl

theorem ref_at (r q : Fin 512) : refOut X A B D (ix2 r q) = ∑ j : Fin 8192, term X A B D r q j := by
  unfold refOut
  rw [back_plain]
  refine (StackMember.dotGeneral_plain_apply none _ D r q).trans (Finset.sum_congr rfl fun j _ => ?_)
  have ha := StackMember.dotGeneral_plain_apply none X A r j
  have hb := StackMember.dotGeneral_plain_apply none X B r j
  rw [← wide_plain] at ha hb
  refine congrArg (· * D (ix2 j q)) ?_
  show Host.dotGeneral dot_S512x512_S512x8192_S512x8192_1_0_0_1_n_n none X A (ix2 r j)
      * Ideal.div (Host.dotGeneral dot_S512x512_S512x8192_S512x8192_1_0_0_1_n_n none X B (ix2 r j))
          (Ideal.ofBits .bf16 0x3F80#16 + Ideal.exp (-(Host.dotGeneral dot_S512x512_S512x8192_S512x8192_1_0_0_1_n_n none X B (ix2 r j)))) = _
  rw [ha, hb, one_bits, swish]
  rfl

end Reference

/-! ## The kernel -/

section Kernel

open Cert.KernelIdeal Cert.KernelIdeal.Gen

/-- The devices whose values device `c`'s sum holds after `r` steps. -/
def reach (v : ℕ → Fin 3) : ℕ → Dev nD → List (Dev nD)
  | 0, c => [c]
  | r + 1, c => reach v r c ++ reach v r (fl (v r) c)

/-- After three steps every device's value is there once. -/
theorem reach_all : ∀ (p : Fin 3) (c : Dev nD), (reach (pat p) 3 c).Perm (List.finRange 8) := by decide +kernel

theorem bfly_reach {s : Shape} (v : ℕ → Fin 3) (a : Dev nD → FVec Ideal s .f32) (x : s.Idx) :
    ∀ (r : ℕ) (c : Dev nD), bfly v a r c x = ((reach v r c).map fun d => a d x).sum
  | 0, c => by show a c x = _; simp [reach]
  | r + 1, c => by
    show bfly v a r c x + bfly v a r (fl (v r) c) x = _
    rw [bfly_reach v a x r c, bfly_reach v a x r (fl (v r) c), reach, List.map_append, List.sum_append]

/-- The recursive doubling sums over all devices. -/
theorem bfly_sum {s : Shape} (p : Fin 3) (a : Dev nD → FVec Ideal s .f32) (c : Dev nD) (x : s.Idx) :
    bfly (pat p) a 3 c x = ∑ d : Fin 8, a d x := by
  rw [bfly_reach, Fin.sum_univ_def]
  exact ((reach_all p c).map fun d => a d x).sum_eq

variable {F : FTy → Type} [FloatOps F] in
theorem whole_blocks (m : (ℓ : Loc nD τ sig) → Buf (Elt F) ℓ) (c : Dev nD) :
    xAt m c = m ((c : Thread nD τ).loc main_arg0) ∧ gAt m c = m ((c : Thread nD τ).loc main_arg1)
      ∧ uAt m c = m ((c : Thread nD τ).loc main_arg2) ∧ dAt m c = m ((c : Thread nD τ).loc main_arg3) :=
  ⟨Memref.read_access_unit_zero (Elt F) main_arg0 (funext fun a => by fin_cases a <;> decide) (fun a => by fin_cases a <;> decide) _,
    Memref.read_access_unit_zero (Elt F) main_arg1 (funext fun a => by fin_cases a <;> decide) (fun a => by fin_cases a <;> decide) _,
    Memref.read_access_unit_zero (Elt F) main_arg2 (funext fun a => by fin_cases a <;> decide) (fun a => by fin_cases a <;> decide) _,
    Memref.read_access_unit_zero (Elt F) main_arg3 (funext fun a => by fin_cases a <;> decide) (fun a => by fin_cases a <;> decide) _⟩

/-- Rows `o` onwards of the activations, times the rows of the last weight. -/
theorem rows_at {n o : ℕ} (ho : o + n ≤ 512) (h : FVec Ideal ⟨2, ![512, 1024]⟩ .bf16) (d : FVec Ideal ⟨2, ![1024, 512]⟩ .bf16)
    (hs : (⟨2, ![512, 1024]⟩ : Shape).Slices ![o, 0] ⟨2, ![n, 1024]⟩) (i : Fin n) (q : Fin 512) :
    FloatOps.matmul (DotDims.plain n 1024 512) none (extractStridedSlice ⟨2, ![n, 1024]⟩ ![o, 0] h hs : FVec Ideal ⟨2, ![n, 1024]⟩ .bf16) d
        (constant ⟨2, ![n, 512]⟩ .f32 0x00000000#32) (ix2 i q)
      = ∑ j : Fin 1024, h (ix2 ⟨o + i.val, by omega⟩ j) * d (ix2 j q) := by
  rw [Ideal.matmul_plain_apply, constant_apply, Ideal.ofBits_zero_f32, zero_add]
  refine Finset.sum_congr rfl fun j _ => congrArg (· * d (ix2 j q)) ?_
  refine extractStridedSlice_apply _ _ _ _ _ fun a => ?_
  match a with
  | ⟨0, _⟩ => rfl
  | ⟨1, _⟩ => exact (Nat.zero_add _).symm

theorem hid_at (x : FVec Ideal S512x512 .bf16) (g u : FVec Ideal S512x1024 .bf16) (r : Fin 512) (j : Fin 1024) :
    k0_pay2 (F := Ideal) x g u (ix2 r j) = act (∑ k : Fin 512, x (ix2 r k) * g (ix2 k j)) (∑ k : Fin 512, x (ix2 r k) * u (ix2 k j)) := by
  have hd : dot_S512x512_S512x1024_S512x1024_1_0_0_1_n_n = DotDims.plain 512 512 1024 := rfl
  have h (w : FVec Ideal S512x1024 .bf16) : FloatOps.matmul dot_S512x512_S512x1024_S512x1024_1_0_0_1_n_n none x w (constant S512x1024 .f32 0x00000000#32) (ix2 r j)
      = ∑ k : Fin 512, x (ix2 r k) * w (ix2 k j) := by
    rw [hd]
    refine (Ideal.matmul_plain_apply none x w _ r j).trans ?_
    rw [constant_apply, Ideal.ofBits_zero_f32, zero_add]
  rw [← h g, ← h u]
  unfold k0_pay2
  rw [shapeCast_self, shapeCast_self, shapeCast_self]
  rfl

variable (m : (ℓ : Loc nD τ sig) → Buf (Elt Ideal) ℓ)
variable (X : FVec Ideal ⟨2, ![512, 512]⟩ .bf16) (A B : FVec Ideal ⟨2, ![512, 8192]⟩ .bf16) (D : FVec Ideal ⟨2, ![8192, 512]⟩ .bf16)

/-- Every device holds the rows and its slices of the weights. -/
def Held : Prop := ∀ c : Dev nD, xAt m c = X ∧ gAt m c = Layout.block ⟨2, ![512, 1024]⟩ ⟨2, ![512, 8192]⟩ 1 8 c A
  ∧ uAt m c = Layout.block ⟨2, ![512, 1024]⟩ ⟨2, ![512, 8192]⟩ 1 8 c B ∧ dAt m c = Layout.block ⟨2, ![1024, 512]⟩ ⟨2, ![8192, 512]⟩ 0 8 c D

theorem block_cols (W : FVec Ideal ⟨2, ![512, 8192]⟩ .bf16) (c : Fin 8) (k : Fin 512) (j : Fin 1024) :
    Layout.block ⟨2, ![512, 1024]⟩ ⟨2, ![512, 8192]⟩ 1 8 c W (by decide) (ix2 k j) = W (ix2 k (col c j)) := by
  rw [Layout.block_apply]
  refine congrArg W (funext fun a => Fin.ext ?_)
  match a with
  | ⟨0, _⟩ => rfl
  | ⟨1, _⟩ => rfl
theorem block_rows (c : Fin 8) (j : Fin 1024) (q : Fin 512) :
    Layout.block ⟨2, ![1024, 512]⟩ ⟨2, ![8192, 512]⟩ 0 8 c D (by decide) (ix2 j q) = D (ix2 (col c j) q) := by
  rw [Layout.block_apply]
  refine congrArg D (funext fun a => Fin.ext ?_)
  match a with
  | ⟨0, _⟩ => rfl
  | ⟨1, _⟩ => rfl

/-- The three bands of the result. -/
theorem out_top (c : Dev nD) (r q : Fin 512) (h₀ : r.val < 160) : outAt m c (ix2 r q) = acc0 m 3 c (ix2 ⟨r.val, h₀⟩ q) := by
  unfold outAt
  refine (dif_pos h₀).trans (congrArg (acc0 m 3 c) (funext fun a => ?_))
  match a with
  | ⟨0, _⟩ => rfl
  | ⟨1, _⟩ => rfl
theorem out_mid (c : Dev nD) (r q : Fin 512) (h₀ : ¬r.val < 160) (h₁ : r.val < 320) :
    outAt m c (ix2 r q) = acc1 m 3 c (ix2 ⟨r.val - 160, by omega⟩ q) := by
  unfold outAt
  refine (dif_neg h₀).trans ((dif_pos h₁).trans (congrArg (acc1 m 3 c) (funext fun a => ?_)))
  match a with
  | ⟨0, _⟩ => rfl
  | ⟨1, _⟩ => rfl
theorem out_low (c : Dev nD) (r q : Fin 512) (h₀ : ¬r.val < 160) (h₁ : ¬r.val < 320) :
    outAt m c (ix2 r q) = acc2 m 3 c (ix2 ⟨r.val - 320, by omega⟩ q) := by
  unfold outAt
  refine (dif_neg h₀).trans ((dif_neg h₁).trans (congrArg (acc2 m 3 c) (funext fun a => ?_)))
  match a with
  | ⟨0, _⟩ => rfl
  | ⟨1, _⟩ => rfl

variable {m X A B D} (H : Held m X A B D)
include H

/-- Device `c`'s product of its activations with its rows of the last weight. -/
theorem prod_at (c : Dev nD) (r q : Fin 512) : ∑ j : Fin 1024, hAt m c (ix2 r j) * dAt m c (ix2 j q) = part X A B D r q c := by
  obtain ⟨hx, hg, hu, hd⟩ := H c
  refine Finset.sum_congr rfl fun j _ => ?_
  unfold hAt term
  rw [hid_at, hx, hg, hu, hd, block_rows]
  simp only [block_cols]

theorem acc0_at (c : Dev nD) (i : Fin 160) (r q : Fin 512) (hr : 0 + i.val = r.val) :
    acc0 m 3 c (ix2 i q) = ∑ j : Fin 8192, term X A B D r q j := by
  have hi : 0 + i.val < 512 := by have := i.isLt; omega
  obtain rfl : (⟨0 + i.val, hi⟩ : Fin 512) = r := Fin.ext hr
  unfold acc0
  rw [bfly_sum, ← sum_parts]
  refine Finset.sum_congr rfl fun d _ => ?_
  rw [← prod_at H]
  unfold k0_pay4 k0_pay3
  dsimp only
  rw [shapeCast_self]
  exact rows_at (n := 160) (o := 0) (by omega) (hAt m d) (dAt m d) _ i q

theorem acc1_at (c : Dev nD) (i : Fin 160) (r q : Fin 512) (hr : 160 + i.val = r.val) :
    acc1 m 3 c (ix2 i q) = ∑ j : Fin 8192, term X A B D r q j := by
  have hi : 160 + i.val < 512 := by have := i.isLt; omega
  obtain rfl : (⟨160 + i.val, hi⟩ : Fin 512) = r := Fin.ext hr
  unfold acc1
  rw [bfly_sum, ← sum_parts]
  refine Finset.sum_congr rfl fun d _ => ?_
  rw [← prod_at H]
  unfold k0_pay6 k0_pay3
  dsimp only
  rw [shapeCast_self]
  exact rows_at (n := 160) (o := 160) (by omega) (hAt m d) (dAt m d) _ i q

theorem acc2_at (c : Dev nD) (i : Fin 192) (r q : Fin 512) (hr : 320 + i.val = r.val) :
    acc2 m 3 c (ix2 i q) = ∑ j : Fin 8192, term X A B D r q j := by
  have hi : 320 + i.val < 512 := by have := i.isLt; omega
  obtain rfl : (⟨320 + i.val, hi⟩ : Fin 512) = r := Fin.ext hr
  unfold acc2
  rw [bfly_sum, ← sum_parts]
  refine Finset.sum_congr rfl fun d _ => ?_
  rw [← prod_at H]
  unfold k0_pay8 k0_pay3
  dsimp only
  rw [shapeCast_self]
  exact rows_at (n := 192) (o := 320) (by omega) (hAt m d) (dAt m d) _ i q

theorem out_at (c : Dev nD) (r q : Fin 512) : outAt m c (ix2 r q) = ∑ j : Fin 8192, term X A B D r q j := by
  by_cases h₀ : r.val < 160
  · rw [out_top m c r q h₀, acc0_at H c ⟨r.val, h₀⟩ r q (Nat.zero_add _)]
  by_cases h₁ : r.val < 320
  · rw [out_mid m c r q h₀ h₁, acc1_at H c ⟨r.val - 160, by omega⟩ r q (by show 160 + (r.val - 160) = r.val; omega)]
  · rw [out_low m c r q h₀ h₁, acc2_at H c ⟨r.val - 320, by omega⟩ r q (by show 320 + (r.val - 320) = r.val; omega)]

/-- Every device's result is the reference's. -/
theorem out_ref (c : Dev nD) : outAt m c = refOut X A B D := by
  funext x
  obtain ⟨r, q, rfl⟩ : ∃ (r q : Fin 512), x = ix2 r q := ⟨x 0, x 1, eq_ix2 x⟩
  rw [out_at H, ref_at]

end Kernel

/-! ## The arrays at the end -/

section Arrays

open Cert.KernelIdeal Cert.KernelIdeal.Gen
open Idealize.SL.Sem

variable {F : FTy → Type} [FloatOps F] (m : (ℓ : Loc nD τ sig) → Buf (Elt F) ℓ) (ρ : Dev nD → PrngReg) (c : Dev nD)

theorem final_out : finalA m ρ c (4 : Fin 5) = outAt m c := by
  refine (dats m ρ 0 c).arrAt_eq_of_cover (4 : Fin 5) (outAt m c) (fun t _ => ?_) fun i => ⟨t0_0, flush0_4 t0_0, ?_⟩
  · rw [fin_N0 t]
    show (cfg0.win 4).cut (grid0.coords t0_0) (outAt m c) = _
    exact (Memref.read_access_unit_zero (Elt F) main_v1 (funext fun a => by fin_cases a <;> decide) (fun a => by fin_cases a <;> decide) (outAt m c)).symm
  · show i ∈ ((View.whole main_v1).slice (win0_4.rect t0_0)).set
    rw [View.set_slice_whole, Rect.mem_set_unit]
    intro a
    have h0 : (i 0 : ℕ) < 512 := (i 0).isLt
    have h1 : (i 1 : ℕ) < 512 := (i 1).isLt
    match a with
    | ⟨0, _⟩ => exact ⟨Nat.zero_le _, h0⟩
    | ⟨1, _⟩ => exact ⟨Nat.zero_le _, h1⟩

/-- The run, read at the arguments, the result and the counters. -/
theorem run_read : θ_run defs (onTc (τ := τ) (main (F := F))) ⟨m, fun _ => 0, ρ⟩ fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => ⟨(h.1 c (4 : Fin 5)).trans (final_out m ρ c),
      (h.1 c (0 : Fin 5)).trans ((dats m ρ 0 c).arrAt_in (0 : Fin 5) rfl _),
      (h.1 c (1 : Fin 5)).trans ((dats m ρ 0 c).arrAt_in (1 : Fin 5) rfl _),
      (h.1 c (2 : Fin 5)).trans ((dats m ρ 0 c).arrAt_in (2 : Fin 5) rfl _),
      (h.1 c (3 : Fin 5)).trans ((dats m ρ 0 c).arrAt_in (3 : Fin 5) rfl _)⟩, h.2⟩)
    (run_main m ρ)

/-- The run, read at the arguments and the counters alone. -/
theorem run_frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => (h.1 c).2, h.2⟩) (run_read m ρ)

end Arrays

end Cert.Exchange

end
-- ==== Proof.lean ====
/-
# The claim

The kernel's run is proved once, for any float values: read at the machine's words it is the kernel's frame, at the
extended reals the idealization's frame and value. The reference's run is read off its list of operations.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

section Text

variable {F : FTy → Type} [FloatOps F]

/-- The kernel and its idealization have the same bodies: no operation was rewritten. -/
theorem bodies : Cert.Kernel.defs₀ (F := F) = Cert.KernelIdeal.defs₀ (F := F) := by
  unfold Cert.Kernel.defs₀ Cert.KernelIdeal.defs₀
  refine congrArg (Defs.onTc (Λ := Cert.KernelIdeal.Λ₀)) ?_
  funext l a
  match l, a with
  | 0, _ => rfl

theorem tables : Cert.Kernel.defs (F := F) = Cert.KernelIdeal.defs (F := F) := by
  unfold Cert.Kernel.defs Cert.KernelIdeal.defs
  rw [bodies]
  rfl

end Text

/-- The kernel at the machine's words: its text is the idealization's. -/
theorem frame_kernel : Cert.quiescent_Kernel := fun m ρ _ => by
  rw [tables]
  exact Cert.Exchange.run_frame (F := Bits) m ρ

theorem frame_ideal : Cert.quiescent_KernelIdeal := fun m ρ _ => Cert.Exchange.run_frame (F := Ideal) m ρ

/-- The reference writes no argument, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every device ends with the reference's value. -/
theorem algebraic : Cert.algebraic_KernelIdeal_ReferenceIdeal := by
  intro m g m' g' _ hm
  have H : Cert.Exchange.Held m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) := fun c =>
    have b := Cert.Exchange.whole_blocks m c
    have a := hm c
    ⟨b.1.trans a.1, b.2.1.trans a.2.1, b.2.2.1.trans a.2.2.1, b.2.2.2.trans a.2.2.2⟩
  refine ⟨Cert.Exchange.refOut _ _ _ _, (θ_run Cert.KernelIdeal.defs _ _).mono (fun r h c => ?_) (Cert.Exchange.run_read (F := Ideal) m g),
    (θ_run Cert.ReferenceIdeal.defs _ _).mono (fun r h => h 0) (Cert.ReferenceIdeal.Value.run (F := Ideal) m' g')⟩
  exact ⟨(h.1 c).1.trans (Cert.Exchange.out_ref H c), (h.1 c).2⟩

theorem claim : Cert.Claim := ⟨Cert.Kernel.Gen.facts, Cert.KernelIdeal.Gen.facts, Cert.ReferenceIdeal.Gen.facts,
  frame_kernel, frame_ideal, frame_reference, trivial, algebraic⟩

end Cert.Proof

end
